-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S3x2048x2048 : Shape := ⟨3, ![3, 2048, 2048]⟩
abbrev S_ : Shape := ⟨0, ![]⟩
abbrev S3x2048x8192 : Shape := ⟨3, ![3, 2048, 8192]⟩
abbrev S2048x8192 : Shape := ⟨2, ![2048, 8192]⟩

class Facts : Prop where
  bitsLt_bf16_f32 : FTy.bits .bf16 < FTy.bits .f32
  bcast_S_S3x2048x8192 : S_.BroadcastsInDim S3x2048x8192 (![] : Fin 0 → Fin S3x2048x8192.rank)

variable [Facts]

def fn {F : FTy → Type} [FloatOps F] (main_arg0 : FVec F S3x2048x2048 .fp8e4m3) (main_arg1 : FVec F S_ .f32) (main_arg2 : FVec F S3x2048x8192 .bf16) (main_arg3 : FVec F S2048x8192 .f32) : IVec S3x2048x8192 1 :=
  let main_v0 : FVec F S3x2048x8192 .f32 := (extf .f32 · bitsLt_bf16_f32) main_arg2
  let main_v1 : FVec F S3x2048x8192 .f32 := Host.absf main_v0
  let main_cst : FVec F S_ .f32 := constant S_ .f32 0x7F7F0000#32
  let main_v2 : FVec F S3x2048x8192 .f32 := broadcastInDim S3x2048x8192 ![] bcast_S_S3x2048x8192 main_cst
  let main_v3 : IVec S3x2048x8192 1 := cmpf .ole main_v1 main_v2
  main_v3
-- ==== Kernel.lean ====
abbrev S3x2048x2048 : Shape := ⟨3, ![3, 2048, 2048]⟩
abbrev S_ : Shape := ⟨0, ![]⟩
abbrev S3x2048x8192 : Shape := ⟨3, ![3, 2048, 8192]⟩
abbrev S2048x8192 : Shape := ⟨2, ![2048, 8192]⟩
abbrev S6144x2048 : Shape := ⟨2, ![6144, 2048]⟩
abbrev S6144x8192 : Shape := ⟨2, ![6144, 8192]⟩
abbrev S8x128 : Shape := ⟨2, ![8, 128]⟩
abbrev S512x8192 : Shape := ⟨2, ![512, 8192]⟩
abbrev S16x8192 : Shape := ⟨2, ![16, 8192]⟩
abbrev S32x16x8192 : Shape := ⟨3, ![32, 16, 8192]⟩
abbrev S1x16x8192 : Shape := ⟨3, ![1, 16, 8192]⟩
abbrev S1 : Shape := ⟨1, ![1]⟩
abbrev S1x1x1 : Shape := ⟨3, ![1, 1, 1]⟩
abbrev S6144x512 : Shape := ⟨2, ![6144, 512]⟩
abbrev S2048x512 : Shape := ⟨2, ![2048, 512]⟩
abbrev S1x1 : Shape := ⟨2, ![1, 1]⟩
abbrev S512x512 : Shape := ⟨2, ![512, 512]⟩

abbrev nBuf : Space → Nat
  | .hbm => 14
  | .vmem => 16
  | .smem => 1
  | _ => 0

abbrev bufTy : (tb : Table) → Fin (tcTables nBuf tb) → BufTy
  | .hbm, ⟨0, _⟩ => ⟨S3x2048x2048, .fp8e4m3⟩
  | .hbm, ⟨1, _⟩ => ⟨S_, .f32⟩
  | .hbm, ⟨2, _⟩ => ⟨S3x2048x8192, .bf16⟩
  | .hbm, ⟨3, _⟩ => ⟨S2048x8192, .f32⟩
  | .hbm, ⟨4, _⟩ => ⟨S6144x2048, .fp8e4m3⟩
  | .hbm, ⟨5, _⟩ => ⟨S6144x8192, .bf16⟩
  | .hbm, ⟨6, _⟩ => ⟨S8x128, .f32⟩
  | .hbm, ⟨7, _⟩ => ⟨S8x128, .f32⟩
  | .hbm, ⟨8, _⟩ => ⟨S1, .f32⟩
  | .hbm, ⟨9, _⟩ => ⟨S2048x8192, .f32⟩
  | .hbm, ⟨10, _⟩ => ⟨S6144x8192, .fp8e5m2⟩
  | .hbm, ⟨11, _⟩ => ⟨S3x2048x8192, .fp8e5m2⟩
  | .hbm, ⟨12, _⟩ => ⟨S1x1, .f32⟩
  | .hbm, ⟨13, _⟩ => ⟨S_, .f32⟩
  | .local _ .vmem, ⟨0, _⟩ => ⟨S512x8192, .bf16⟩
  | .local _ .vmem, ⟨1, _⟩ => ⟨S512x8192, .bf16⟩
  | .local _ .vmem, ⟨2, _⟩ => ⟨S8x128, .f32⟩
  | .local _ .vmem, ⟨3, _⟩ => ⟨S8x128, .f32⟩
  | .local _ .vmem, ⟨4, _⟩ => ⟨S16x8192, .bf16⟩
  | .local _ .vmem, ⟨5, _⟩ => ⟨S8x128, .f32⟩
  | .local _ .vmem, ⟨6, _⟩ => ⟨S8x128, .f32⟩
  | .local _ .vmem, ⟨7, _⟩ => ⟨S6144x2048, .fp8e4m3⟩
  | .local _ .vmem, ⟨8, _⟩ => ⟨S6144x512, .bf16⟩
  | .local _ .vmem, ⟨9, _⟩ => ⟨S6144x512, .bf16⟩
  | .local _ .vmem, ⟨10, _⟩ => ⟨S2048x512, .f32⟩
  | .local _ .vmem, ⟨11, _⟩ => ⟨S2048x512, .f32⟩
  | .local _ .vmem, ⟨12, _⟩ => ⟨S2048x512, .f32⟩
  | .local _ .vmem, ⟨13, _⟩ => ⟨S2048x512, .f32⟩
  | .local _ .vmem, ⟨14, _⟩ => ⟨S6144x512, .fp8e5m2⟩
  | .local _ .vmem, ⟨15, _⟩ => ⟨S6144x512, .fp8e5m2⟩
  | .local _ .smem, ⟨0, _⟩ => ⟨S1, .f32⟩
  | _, _ => ⟨S3x2048x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc1_sem5_0 : DmaSem sig := 10
abbrev cc1_sem5_1 : DmaSem sig := 11
abbrev cc1_sem6_0 : DmaSem sig := 12
abbrev cc1_sem6_1 : DmaSem sig := 13
abbrev cc1_sem7_0 : DmaSem sig := 14
abbrev cc1_sem7_1 : DmaSem sig := 15

abbrev nD : Nat := 1
abbrev τ : Topo := Topo.v7x

variable {F : FTy → Type} [FloatOps F]

abbrev grid0 : Pipeline.Grid := ⟨1, ![12], ![false]⟩

def k0_cond3 (i : grid0.Coords) : BitVec 1 :=
  let arg0 : BitVec 32 := BitVec.ofNat 32 (i 0).val
  let c11_i32 : BitVec 32 := 11#32
  let v11 : BitVec 1 := Scalar.cmpi .eq arg0 c11_i32
  let v12 : BitVec 32 := Scalar.extui v11
  let c0_i32_4 : BitVec 32 := 0#32
  let v13 : BitVec 1 := Scalar.cmpi .ne v12 c0_i32_4
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![16], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .smem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S8x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S6144x2048 .fp8e4m3 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S6144x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2048x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S6144x512 .fp8e5m2 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceIdeal.lean ====
abbrev S3x2048x2048 : Shape := ⟨3, ![3, 2048, 2048]⟩
abbrev S_ : Shape := ⟨0, ![]⟩
abbrev S3x2048x8192 : Shape := ⟨3, ![3, 2048, 8192]⟩
abbrev S2048x8192 : Shape := ⟨2, ![2048, 8192]⟩
abbrev S6144x2048 : Shape := ⟨2, ![6144, 2048]⟩
abbrev S1x1 : Shape := ⟨2, ![1, 1]⟩
abbrev S6144x8192 : Shape := ⟨2, ![6144, 8192]⟩
abbrev S1x6144x8192 : Shape := ⟨3, ![1, 6144, 8192]⟩
abbrev S1 : Shape := ⟨1, ![1]⟩
abbrev S1x1x1 : Shape := ⟨3, ![1, 1, 1]⟩

abbrev nBuf : Space → Nat
  | .hbm => 12
  | .vmem => 7
  | .smem => 0
  | _ => 0

abbrev bufTy : (tb : Table) → Fin (tcTables nBuf tb) → BufTy
  | .hbm, ⟨0, _⟩ => ⟨S3x2048x2048, .fp8e4m3⟩
  | .hbm, ⟨1, _⟩ => ⟨S_, .f32⟩
  | .hbm, ⟨2, _⟩ => ⟨S3x2048x8192, .bf16⟩
  | .hbm, ⟨3, _⟩ => ⟨S2048x8192, .f32⟩
  | .hbm, ⟨4, _⟩ => ⟨S6144x2048, .fp8e4m3⟩
  | .hbm, ⟨5, _⟩ => ⟨S1x1, .f32⟩
  | .hbm, ⟨6, _⟩ => ⟨S6144x8192, .bf16⟩
  | .hbm, ⟨7, _⟩ => ⟨S2048x8192, .f32⟩
  | .hbm, ⟨8, _⟩ => ⟨S6144x8192, .fp8e5m2⟩
  | .hbm, ⟨9, _⟩ => ⟨S1x1, .f32⟩
  | .hbm, ⟨10, _⟩ => ⟨S3x2048x8192, .fp8e5m2⟩
  | .hbm, ⟨11, _⟩ => ⟨S_, .f32⟩
  | .local _ .vmem, ⟨0, _⟩ => ⟨S6144x2048, .fp8e4m3⟩
  | .local _ .vmem, ⟨1, _⟩ => ⟨S1x1, .f32⟩
  | .local _ .vmem, ⟨2, _⟩ => ⟨S6144x8192, .bf16⟩
  | .local _ .vmem, ⟨3, _⟩ => ⟨S2048x8192, .f32⟩
  | .local _ .vmem, ⟨4, _⟩ => ⟨S2048x8192, .f32⟩
  | .local _ .vmem, ⟨5, _⟩ => ⟨S6144x8192, .fp8e5m2⟩
  | .local _ .vmem, ⟨6, _⟩ => ⟨S1x1, .f32⟩
  | _, _ => ⟨S3x2048x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6144x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x8192 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Kernel.Runs0.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

/-! Region 0 (the amax call): window blocks, branch conditions and staging memrefs, at any entry contents `V`. -/

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 12 = 0 :=
  (fun t => by
    have ht : t.val < 12 := Nat.lt_of_lt_of_eq t.isLt N_0
    have e0 : (grid0.coords t 0).val = t.val / 1 % 12 := Pipeline.Grid.coords_val t 0 (by decide) rfl
    simp only [cond0_0, e0]
    word_cmp
   : ∀ t : Fin grid0.N, cond0_0 (grid0.coords t) ↔ t.val % 12 = 0)

/-- The condition of the body's `scf.if` 1 (`k0_h2`), from the grid coordinates (the skeleton's scalar
    chain substituted). -/
abbrev cond0_1 (i : grid0.Coords) : Prop := (Scalar.cmpi .ne (Scalar.extui (Scalar.cmpi .sgt (BitVec.ofNat 32 (i 0).val) 0#32)) 0#32) = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 12 = 11 :=
  (fun t => by
    have ht : t.val < 12 := Nat.lt_of_lt_of_eq t.isLt N_0
    have e0 : (grid0.coords t 0).val = t.val / 1 % 12 := Pipeline.Grid.coords_val t 0 (by decide) rfl
    simp only [cond0_2, k0_cond3, e0]
    word_cmp
   : ∀ t : Fin grid0.N, cond0_2 (grid0.coords t) ↔ t.val % 12 = 11)

/-! ## Where the windows are idle (the printed configuration's table `Cfg.idle`) -/

/-- Window 0 is never idle (an input). -/
theorem liveAt0_0 : ∀ t : Fin cfg0.N, cfg0.idle 0 (grid0.coords t) = false := fun _ => rfl
/-- At the points of case A the printed configuration (`Cfg.idle`) calls output 1 idle: the case stores nothing into it. -/
theorem idleAt0_1_A : ∀ t : Fin cfg0.N, cond0_0 (grid0.coords t) → ¬cond0_1 (grid0.coords t) → ¬cond0_2 (grid0.coords t) → cfg0.idle 1 (grid0.coords t) = true := by decide +kernel
/-- At the points of case A the pipeline does not write output 1's block back. -/
theorem noFlush0_1_A : ∀ t : Fin cfg0.N, cond0_0 (grid0.coords t) → ¬cond0_1 (grid0.coords t) → ¬cond0_2 (grid0.coords t) → (cfg0.win 1).flush t = false := by decide +kernel
/-- At the points of case B the printed configuration (`Cfg.idle`) calls output 1 idle: the case stores nothing into it. -/
theorem idleAt0_1_B : ∀ t : Fin cfg0.N, ¬cond0_0 (grid0.coords t) → cond0_1 (grid0.coords t) → ¬cond0_2 (grid0.coords t) → cfg0.idle 1 (grid0.coords t) = true := by decide +kernel
/-- At the points of case B the pipeline does not write output 1's block back. -/
theorem noFlush0_1_B : ∀ t : Fin cfg0.N, ¬cond0_0 (grid0.coords t) → cond0_1 (grid0.coords t) → ¬cond0_2 (grid0.coords t) → (cfg0.win 1).flush t = false := by decide +kernel
/-- At the points of case C the printed configuration (`Cfg.idle`) calls output 1 live: the case stores into it. -/
theorem liveAt0_1_C : ∀ t : Fin cfg0.N, ¬cond0_0 (grid0.coords t) → cond0_1 (grid0.coords t) → cond0_2 (grid0.coords t) → cfg0.idle 1 (grid0.coords t) = false := by decide +kernel
/-- At the points of case A the printed configuration (`Cfg.idle`) calls output 2 idle: the case stores nothing into it. -/
theorem idleAt0_2_A : ∀ t : Fin cfg0.N, cond0_0 (grid0.coords t) → ¬cond0_1 (grid0.coords t) → ¬cond0_2 (grid0.coords t) → cfg0.idle 2 (grid0.coords t) = true := by decide +kernel
/-- At the points of case A the pipeline does not write output 2's block back. -/
theorem noFlush0_2_A : ∀ t : Fin cfg0.N, cond0_0 (grid0.coords t) → ¬cond0_1 (grid0.coords t) → ¬cond0_2 (grid0.coords t) → (cfg0.win 2).flush t = false := by decide +kernel
/-- At the points of case B the printed configuration (`Cfg.idle`) calls output 2 idle: the case stores nothing into it. -/
theorem idleAt0_2_B : ∀ t : Fin cfg0.N, ¬cond0_0 (grid0.coords t) → cond0_1 (grid0.coords t) → ¬cond0_2 (grid0.coords t) → cfg0.idle 2 (grid0.coords t) = true := by decide +kernel
/-- At the points of case B the pipeline does not write output 2's block back. -/
theorem noFlush0_2_B : ∀ t : Fin cfg0.N, ¬cond0_0 (grid0.coords t) → cond0_1 (grid0.coords t) → ¬cond0_2 (grid0.coords t) → (cfg0.win 2).flush t = false := by decide +kernel
/-- At the points of case C the printed configuration (`Cfg.idle`) calls output 2 live: the case stores into it. -/
theorem liveAt0_2_C : ∀ t : Fin cfg0.N, ¬cond0_0 (grid0.coords t) → cond0_1 (grid0.coords t) → cond0_2 (grid0.coords t) → cfg0.idle 2 (grid0.coords t) = false := by decide +kernel

/-! ## The kernel body on any staging memrefs: a subtype the run finds -/

/-- One staging buffer of output window 1, through which its contents are stated (`View.read_writes_of_cover`: the
    choice does not matter). -/
abbrev VO0_1 : View sig .tc .vmem S8x128 .f32 := (Memref.whole cc0_stg1_0 : Memref sig .tc .vmem S8x128 .f32).view
/-- One staging buffer of output window 2, through which its contents are stated (`View.read_writes_of_cover`: the
    choice does not matter). -/
abbrev VO0_2 : View sig .tc .vmem S8x128 .f32 := (Memref.whole cc0_stg2_0 : Memref sig .tc .vmem S8x128 .f32).view
/-- Each window's current staging memref at point `t`, spelled as the pipeline passes it (`bodyAt0`), and its wholeness. -/
abbrev ms0_0 (t : Fin cfg0.N) : Memref sig .tc .vmem S512x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S16x8192 .bf16 := Memref.whole cc0_scratch0
/-- The scratch `arg4` the kernel carries between points, as a view: what it holds is stated through it. -/
abbrev VS0_0 : View sig .tc .vmem S16x8192 .bf16 := scM0_0.view

/-- What the first region holds but never touches: the second region's staging buffers, each at some contents. -/
def others (c : Dev nD) : sProp 𝕄 := iprop((∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg0_0), ((c : Thread nD τ).loc cc1_stg0_0) ↦{fullShare} f))
/-- Beside the scratch, what every point of region 0 passes along unread: `others` and the generator register. -/
def keep (c : Dev nD) : sProp 𝕄 := iprop(others (F := F) c ∗ (∃ r, prngReg c r))

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ keep (F := F) c) := by
  unfold Pipeline.ΦA keep others; rw [scopedRest0_eq]; simp only [scM0_0, owns_whole]; exact BI.Entails.antisymm BI.sep_assoc BI.sep_assoc'

end Cert.Kernel.Run

end
-- ==== Proof.Kernel.RunA0.lean ====
module

public import proofs.«01_k».proof.Proof.Kernel.Runs0

/-! Region 0: the body run in case A (which `scf.if`s are taken). -/

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken: points 0), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x8192 .bf16) (harg4 : arg4.IsWhole) (hc0 : cond0_0 i) (hc1 : ¬cond0_1 i) (hc2 : ¬cond0_2 i)
    (x0 : Vec F S512x8192 .bf16) :
    Σ' (L1 : List (View.Piece (Elt F) S8x128 .f32)), Σ' (L2 : List (View.Piece (Elt F) S8x128 .f32)), { LS0 : List (View.Piece (Elt F) S16x8192 .bf16) //
      ∀ (xi1 : Vec F S8x128 .f32) (xi2 : Vec F S8x128 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0_dy_amax i arg1 harg1 arg2 harg2 arg3 harg3 arg4 harg4) K } := by
  refine ⟨[], [], ?_, fun xi1 xi2 E K => ?run⟩
  case run =>
    simp only [cc0_dy_amax_eq_skeleton]; unfold cc0_dy_amax_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Run

end
-- ==== Proof.Kernel.RunB0.lean ====
module

public import proofs.«01_k».proof.Proof.Kernel.Runs0

/-! Region 0: the body run in case B (which `scf.if`s are taken). -/

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, … 10: 10 of 12), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x8192 .bf16) (harg4 : arg4.IsWhole) (hc0 : ¬cond0_0 i) (hc1 : cond0_1 i) (hc2 : ¬cond0_2 i)
    (x0 : Vec F S512x8192 .bf16) (xs0 : Vec F S16x8192 .bf16) :
    Σ' (L1 : List (View.Piece (Elt F) S8x128 .f32)), Σ' (L2 : List (View.Piece (Elt F) S8x128 .f32)), { LS0 : List (View.Piece (Elt F) S16x8192 .bf16) //
      ∀ (xi1 : Vec F S8x128 .f32) (xi2 : Vec F S8x128 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0_dy_amax i arg1 harg1 arg2 harg2 arg3 harg3 arg4 harg4) K } := by
  refine ⟨[], [], ?_, fun xi1 xi2 E K => ?run⟩
  case run =>
    simp only [cc0_dy_amax_eq_skeleton]; unfold cc0_dy_amax_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Run

end
-- ==== Proof.Kernel.RunC0.lean ====
module

public import proofs.«01_k».proof.Proof.Kernel.Runs0

/-! Region 0: the body run in case C (which `scf.if`s are taken). -/

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken: points 11), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S512x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x8192 .bf16) (harg4 : arg4.IsWhole) (hc0 : ¬cond0_0 i) (hc1 : cond0_1 i) (hc2 : cond0_2 i)
    (x0 : Vec F S512x8192 .bf16) (xs0 : Vec F S16x8192 .bf16) :
    Σ' (L1 : List (View.Piece (Elt F) S8x128 .f32)), Σ' (L2 : List (View.Piece (Elt F) S8x128 .f32)), { LS0 : List (View.Piece (Elt F) S16x8192 .bf16) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0_dy_amax i arg1 harg1 arg2 harg2 arg3 harg3 arg4 harg4) K } := by
  refine ⟨?_, ?_, ?_, fun E K => ?run⟩
  case run =>
    simp only [cc0_dy_amax_eq_skeleton]; unfold cc0_dy_amax_skel
    simp only [k0_part1_eq_skeleton, k0_part2_eq_skeleton]
    unfold owns
    iintro ⟨⟨%f0, %hf0, H0⟩, ⟨%d1, %f1, -, H1⟩, ⟨%d2, %f2, -, H2⟩, ⟨%fs0, %hfs0, HS0⟩, Hk⟩
    obtain rfl := harg1.eq_unread hf0; obtain rfl := harg4.eq_unread hfs0
    sl_exec (disch := first | sl_exact hc0 | sl_exact hc1 | sl_exact hc2)
    sl_step
    iapply Hk
    isplitl [H0]
    · iexists _; isplitr; · ipureintro; exact harg1.read_unread _
      iexact H0
    isplitl [H1]; · iexists _; iexact H1
    isplitl [H2]; · iexists _; iexact H2
    iexists _; iexact HS0

end Cert.Kernel.Run

end
-- ==== Proof.Kernel.Region0.lean ====
module

public import proofs.«01_k».proof.Proof.Kernel.RunA0
public import proofs.«01_k».proof.Proof.Kernel.RunB0
public import proofs.«01_k».proof.Proof.Kernel.RunC0

/-! Region 0: what each point leaves, the scratch carried between points, the pipeline's proof data and its body obligation. -/

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- Case A stores nothing into output 1 (the window is idle at its points and not written back there):
    no pieces — a placeholder (junk read back) that nothing consults, since at these points the window is neither
    written back nor read at the next point (Lib/Pipeline.lean "Idle points"). -/
def out0_A_1 (c : Dev nD) (i : grid0.Coords) (arg1 : Memref sig .tc .vmem S512x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x8192 .bf16) (harg4 : arg4.IsWhole) (hc0 : cond0_0 i) (hc1 : ¬cond0_1 i) (hc2 : ¬cond0_2 i)
    (x0 : Vec F S512x8192 .bf16) : Vec F S8x128 .f32 :=
  VO0_1.read (Elt F) (VO0_1.writes (Elt F) VO0_1.junk (kernelRun0_A c i arg1 harg1 arg2 harg2 arg3 harg3 arg4 harg4 hc0 hc1 hc2 x0).1)

/-- Case A stores nothing into output 2 (the window is idle at its points and not written back there):
    no pieces — a placeholder (junk read back) that nothing consults, since at these points the window is neither
    written back nor read at the next point (Lib/Pipeline.lean "Idle points"). -/
def out0_A_2 (c : Dev nD) (i : grid0.Coords) (arg1 : Memref sig .tc .vmem S512x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x8192 .bf16) (harg4 : arg4.IsWhole) (hc0 : cond0_0 i) (hc1 : ¬cond0_1 i) (hc2 : ¬cond0_2 i)
    (x0 : Vec F S512x8192 .bf16) : Vec F S8x128 .f32 :=
  VO0_2.read (Elt F) (VO0_2.writes (Elt F) VO0_2.junk (kernelRun0_A c i arg1 harg1 arg2 harg2 arg3 harg3 arg4 harg4 hc0 hc1 hc2 x0).2.1)

/-- Case A's pieces for scratch `arg4`, which the kernel carries between points, cover it: 1 piece of `S16x8192` tiling it (Lib/Ring.lean `Piece.tiledL`). -/
theorem scover0_A_0 (c : Dev nD) (i : grid0.Coords) (arg1 : Memref sig .tc .vmem S512x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x8192 .bf16) (harg4 : arg4.IsWhole) (hc0 : cond0_0 i) (hc1 : ¬cond0_1 i) (hc2 : ¬cond0_2 i)
    (x0 : Vec F S512x8192 .bf16) (y : S16x8192.Idx) :
    ∃ pc ∈ (kernelRun0_A c i arg1 harg1 arg2 harg2 arg3 harg3 arg4 harg4 hc0 hc1 hc2 x0).2.2.1, y ∈ pc.1.set :=
  View.cover_of_tiledL (kernelRun0_A c i arg1 harg1 arg2 harg2 arg3 harg3 arg4 harg4 hc0 hc1 hc2 x0).2.2.1 S16x8192.size (by sl_kernel_rfl) y

/-- What case A leaves in scratch `arg4`: its pieces read back over junk. -/
def sout0_A_0 (c : Dev nD) (i : grid0.Coords) (arg1 : Memref sig .tc .vmem S512x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x8192 .bf16) (harg4 : arg4.IsWhole) (hc0 : cond0_0 i) (hc1 : ¬cond0_1 i) (hc2 : ¬cond0_2 i)
    (x0 : Vec F S512x8192 .bf16) : Vec F S16x8192 .bf16 :=
  VS0_0.read (Elt F) (VS0_0.writes (Elt F) VS0_0.junk (kernelRun0_A c i arg1 harg1 arg2 harg2 arg3 harg3 arg4 harg4 hc0 hc1 hc2 x0).2.2.1)

/-- Case B stores nothing into output 1 (the window is idle at its points and not written back there):
    no pieces — a placeholder (junk read back) that nothing consults, since at these points the window is neither
    written back nor read at the next point (Lib/Pipeline.lean "Idle points"). -/
def out0_B_1 (c : Dev nD) (i : grid0.Coords) (arg1 : Memref sig .tc .vmem S512x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x8192 .bf16) (harg4 : arg4.IsWhole) (hc0 : ¬cond0_0 i) (hc1 : cond0_1 i) (hc2 : ¬cond0_2 i)
    (x0 : Vec F S512x8192 .bf16) (xs0 : Vec F S16x8192 .bf16) : Vec F S8x128 .f32 :=
  VO0_1.read (Elt F) (VO0_1.writes (Elt F) VO0_1.junk (kernelRun0_B c i arg1 harg1 arg2 harg2 arg3 harg3 arg4 harg4 hc0 hc1 hc2 x0 xs0).1)

/-- Case B stores nothing into output 2 (the window is idle at its points and not written back there):
    no pieces — a placeholder (junk read back) that nothing consults, since at these points the window is neither
    written back nor read at the next point (Lib/Pipeline.lean "Idle points"). -/
def out0_B_2 (c : Dev nD) (i : grid0.Coords) (arg1 : Memref sig .tc .vmem S512x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x8192 .bf16) (harg4 : arg4.IsWhole) (hc0 : ¬cond0_0 i) (hc1 : cond0_1 i) (hc2 : ¬cond0_2 i)
    (x0 : Vec F S512x8192 .bf16) (xs0 : Vec F S16x8192 .bf16) : Vec F S8x128 .f32 :=
  VO0_2.read (Elt F) (VO0_2.writes (Elt F) VO0_2.junk (kernelRun0_B c i arg1 harg1 arg2 harg2 arg3 harg3 arg4 harg4 hc0 hc1 hc2 x0 xs0).2.1)

/-- Case B's pieces for scratch `arg4`, which the kernel carries between points, cover it: 1 piece of `S16x8192` tiling it (Lib/Ring.lean `Piece.tiledL`). -/
theorem scover0_B_0 (c : Dev nD) (i : grid0.Coords) (arg1 : Memref sig .tc .vmem S512x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x8192 .bf16) (harg4 : arg4.IsWhole) (hc0 : ¬cond0_0 i) (hc1 : cond0_1 i) (hc2 : ¬cond0_2 i)
    (x0 : Vec F S512x8192 .bf16) (xs0 : Vec F S16x8192 .bf16) (y : S16x8192.Idx) :
    ∃ pc ∈ (kernelRun0_B c i arg1 harg1 arg2 harg2 arg3 harg3 arg4 harg4 hc0 hc1 hc2 x0 xs0).2.2.1, y ∈ pc.1.set :=
  View.cover_of_tiledL (kernelRun0_B c i arg1 harg1 arg2 harg2 arg3 harg3 arg4 harg4 hc0 hc1 hc2 x0 xs0).2.2.1 S16x8192.size (by sl_kernel_rfl) y

/-- What case B leaves in scratch `arg4`: its pieces read back over junk. -/
def sout0_B_0 (c : Dev nD) (i : grid0.Coords) (arg1 : Memref sig .tc .vmem S512x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x8192 .bf16) (harg4 : arg4.IsWhole) (hc0 : ¬cond0_0 i) (hc1 : cond0_1 i) (hc2 : ¬cond0_2 i)
    (x0 : Vec F S512x8192 .bf16) (xs0 : Vec F S16x8192 .bf16) : Vec F S16x8192 .bf16 :=
  VS0_0.read (Elt F) (VS0_0.writes (Elt F) VS0_0.junk (kernelRun0_B c i arg1 harg1 arg2 harg2 arg3 harg3 arg4 harg4 hc0 hc1 hc2 x0 xs0).2.2.1)

/-- Case C's pieces for output 1 tile its block (1 store of `S8x128`, checked by the kernel's evaluation: Lib/Ring.lean `Piece.tiledL`, linear in the pieces, through a loop's `@[irreducible]` trip theorem too), so they cover it. -/
theorem cover0_C_1 (c : Dev nD) (i : grid0.Coords) (arg1 : Memref sig .tc .vmem S512x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x8192 .bf16) (harg4 : arg4.IsWhole) (hc0 : ¬cond0_0 i) (hc1 : cond0_1 i) (hc2 : cond0_2 i)
    (x0 : Vec F S512x8192 .bf16) (xs0 : Vec F S16x8192 .bf16) (y : S8x128.Idx) :
    ∃ pc ∈ (kernelRun0_C c i arg1 harg1 arg2 harg2 arg3 harg3 arg4 harg4 hc0 hc1 hc2 x0 xs0).1, y ∈ pc.1.set :=
  View.cover_of_tiledL (kernelRun0_C c i arg1 harg1 arg2 harg2 arg3 harg3 arg4 harg4 hc0 hc1 hc2 x0 xs0).1 S8x128.size (by sl_kernel_rfl) y

/-- What case C leaves in output 1's staging buffer: its pieces read back over junk. -/
def out0_C_1 (c : Dev nD) (i : grid0.Coords) (arg1 : Memref sig .tc .vmem S512x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x8192 .bf16) (harg4 : arg4.IsWhole) (hc0 : ¬cond0_0 i) (hc1 : cond0_1 i) (hc2 : cond0_2 i)
    (x0 : Vec F S512x8192 .bf16) (xs0 : Vec F S16x8192 .bf16) : Vec F S8x128 .f32 :=
  VO0_1.read (Elt F) (VO0_1.writes (Elt F) VO0_1.junk (kernelRun0_C c i arg1 harg1 arg2 harg2 arg3 harg3 arg4 harg4 hc0 hc1 hc2 x0 xs0).1)

/-- Case C's pieces for output 2 tile its block (1 store of `S8x128`, checked by the kernel's evaluation: Lib/Ring.lean `Piece.tiledL`, linear in the pieces, through a loop's `@[irreducible]` trip theorem too), so they cover it. -/
theorem cover0_C_2 (c : Dev nD) (i : grid0.Coords) (arg1 : Memref sig .tc .vmem S512x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x8192 .bf16) (harg4 : arg4.IsWhole) (hc0 : ¬cond0_0 i) (hc1 : cond0_1 i) (hc2 : cond0_2 i)
    (x0 : Vec F S512x8192 .bf16) (xs0 : Vec F S16x8192 .bf16) (y : S8x128.Idx) :
    ∃ pc ∈ (kernelRun0_C c i arg1 harg1 arg2 harg2 arg3 harg3 arg4 harg4 hc0 hc1 hc2 x0 xs0).2.1, y ∈ pc.1.set :=
  View.cover_of_tiledL (kernelRun0_C c i arg1 harg1 arg2 harg2 arg3 harg3 arg4 harg4 hc0 hc1 hc2 x0 xs0).2.1 S8x128.size (by sl_kernel_rfl) y

/-- What case C leaves in output 2's staging buffer: its pieces read back over junk. -/
def out0_C_2 (c : Dev nD) (i : grid0.Coords) (arg1 : Memref sig .tc .vmem S512x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x8192 .bf16) (harg4 : arg4.IsWhole) (hc0 : ¬cond0_0 i) (hc1 : cond0_1 i) (hc2 : cond0_2 i)
    (x0 : Vec F S512x8192 .bf16) (xs0 : Vec F S16x8192 .bf16) : Vec F S8x128 .f32 :=
  VO0_2.read (Elt F) (VO0_2.writes (Elt F) VO0_2.junk (kernelRun0_C c i arg1 harg1 arg2 harg2 arg3 harg3 arg4 harg4 hc0 hc1 hc2 x0 xs0).2.1)

/-- Case C's pieces for scratch `arg4`, which the kernel carries between points, cover it: 1 piece of `S16x8192` tiling it (Lib/Ring.lean `Piece.tiledL`). -/
theorem scover0_C_0 (c : Dev nD) (i : grid0.Coords) (arg1 : Memref sig .tc .vmem S512x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x8192 .bf16) (harg4 : arg4.IsWhole) (hc0 : ¬cond0_0 i) (hc1 : cond0_1 i) (hc2 : cond0_2 i)
    (x0 : Vec F S512x8192 .bf16) (xs0 : Vec F S16x8192 .bf16) (y : S16x8192.Idx) :
    ∃ pc ∈ (kernelRun0_C c i arg1 harg1 arg2 harg2 arg3 harg3 arg4 harg4 hc0 hc1 hc2 x0 xs0).2.2.1, y ∈ pc.1.set :=
  View.cover_of_tiledL (kernelRun0_C c i arg1 harg1 arg2 harg2 arg3 harg3 arg4 harg4 hc0 hc1 hc2 x0 xs0).2.2.1 S16x8192.size (by sl_kernel_rfl) y

/-- What case C leaves in scratch `arg4`: its pieces read back over junk. -/
def sout0_C_0 (c : Dev nD) (i : grid0.Coords) (arg1 : Memref sig .tc .vmem S512x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x8192 .bf16) (harg4 : arg4.IsWhole) (hc0 : ¬cond0_0 i) (hc1 : cond0_1 i) (hc2 : cond0_2 i)
    (x0 : Vec F S512x8192 .bf16) (xs0 : Vec F S16x8192 .bf16) : Vec F S16x8192 .bf16 :=
  VS0_0.read (Elt F) (VS0_0.writes (Elt F) VS0_0.junk (kernelRun0_C c i arg1 harg1 arg2 harg2 arg3 harg3 arg4 harg4 hc0 hc1 hc2 x0 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S8x128 .f32 × Vec F S8x128 .f32 × Vec F S16x8192 .bf16
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩), out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩))
  | n + 1, hn =>
    if h0 : (n + 1) % 12 = 0 then
      if h1 : 1 ≤ (n + 1) then
        False.elim (by have hN : n + 1 < 12 := lt_of_lt_of_eq hn (show cfg0.N = 12 from N_0); omega)
      else
        if h2 : (n + 1) % 12 = 11 then
          False.elim (by have hN : n + 1 < 12 := lt_of_lt_of_eq hn (show cfg0.N = 12 from N_0); omega)
        else
          (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩), out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩))
    else
      if h1 : 1 ≤ (n + 1) then
        if h2 : (n + 1) % 12 = 11 then
          (out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2.2, out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2.2)
        else
          (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2.2, out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2.2)
      else
        False.elim (by have hN : n + 1 < 12 := lt_of_lt_of_eq hn (show cfg0.N = 12 from N_0); omega)

/-- `outsAt0` at a point of case A: that case's contents. -/
theorem outsAt0_A (c : Dev nD) (t : Fin cfg0.N) (h0 : t.val % 12 = 0) (h1 : ¬1 ≤ t.val) (h2 : ¬t.val % 12 = 11) :
    outsAt0 V c t.val t.isLt = (out0_A_1 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk0 V c 0 t), out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk0 V c 0 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk0 V c 0 t)) := by
  obtain ⟨n, hn⟩ := t
  cases n with
  | zero => exact rfl
  | succ n => exact (dif_pos h0).trans ((dif_neg h1).trans ((dif_neg h2).trans rfl))

/-- `outsAt0` at a point of case B: that case's contents, over what the point before left. -/
theorem outsAt0_B (c : Dev nD) (t : Fin cfg0.N) (h0 : ¬t.val % 12 = 0) (h1 : 1 ≤ t.val) (h2 : ¬t.val % 12 = 11) :
    outsAt0 V c t.val t.isLt = (out0_B_1 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2.2, out0_B_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 12 = 0) (h1 : 1 ≤ t.val) (h2 : t.val % 12 = 11) :
    outsAt0 V c t.val t.isLt = (out0_C_1 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2.2, out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2)) ∗ keep (F := F) c)

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2.2)) ∗ keep (F := F) c) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.2)) ∗ keep (F := F) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 12 := lt_of_lt_of_eq t.isLt (show cfg0.N = 12 from N_0)
  by_cases h0 : t.val % 12 = 0
  · by_cases h1 : 1 ≤ t.val
    · exfalso; omega
    · by_cases h2 : t.val % 12 = 11
      · exfalso; omega
      · rw [show (dat0 V c).leavesExact 0 t = owns (c : Thread nD τ) (ms0_0 t) fullShare ((dat0 V c).after 0 t) from by
      unfold Dat.leavesExact; rw [liveAt0_0 t], after0_0]
        rw [Dat.leavesExact_idle (dat0 V c) 1 t (idleAt0_1_A t ((hcond0_0 t).mpr h0) (fun h => h1 ((hcond0_1 t).mp h)) (fun h => h2 ((hcond0_2 t).mp h))) (noFlush0_1_A t ((hcond0_0 t).mpr h0) (fun h => h1 ((hcond0_1 t).mp h)) (fun h => h2 ((hcond0_2 t).mp h)))]
        rw [Dat.leavesExact_idle (dat0 V c) 2 t (idleAt0_2_A t ((hcond0_0 t).mpr h0) (fun h => h1 ((hcond0_1 t).mp h)) (fun h => h2 ((hcond0_2 t).mp h))) (noFlush0_2_A t ((hcond0_0 t).mpr h0) (fun h => h1 ((hcond0_1 t).mp h)) (fun h => h2 ((hcond0_2 t).mp h)))]
        by_cases hz : t.val = 0
        · rw [PhiS_castSucc V c t, PhiS_zero V c _ _ hz, PhiA0_eq]
          rw [outsAt0_A V c t h0 h1 h2]
          unfold sout0_A_0; (try dsimp only)
          iintro ⟨⟨HS0, Hg⟩, Ho, ⟨%d0, H0⟩, ⟨%d1, H1⟩, ⟨%d2, H2⟩⟩
          iapply ((kernelRun0_A c (grid0.coords t) _ _ _ _ _ _ _ _ ((hcond0_0 t).mpr h0) (fun h => h1 ((hcond0_1 t).mp h)) (fun h => h2 ((hcond0_2 t).mp h)) (iblk0 V c 0 t)).2.2.2 _ _ Set.univ _)
          isplitl [H0]; · iexact H0
          isplitl [H1]; · iexact H1
          isplitl [H2]; · iexact H2
          isplitl [HS0]; · iexact HS0
          iintro ⟨H0, H1, H2, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _)
            iexact Hg
          isplitl [Ho]; · iexact Ho
          isplitl [H0]; · iexact H0
          isplitl [H1]; · iexists _; iexact H1
          iexists _; iexact H2
        · exfalso; have hN : t.val < 12 := lt_of_lt_of_eq t.isLt (show cfg0.N = 12 from N_0); omega
  · by_cases h1 : 1 ≤ t.val
    · by_cases h2 : t.val % 12 = 11
      · rw [show (dat0 V c).leavesExact 0 t = owns (c : Thread nD τ) (ms0_0 t) fullShare ((dat0 V c).after 0 t) from by
      unfold Dat.leavesExact; rw [liveAt0_0 t], after0_0]
        rw [show (dat0 V c).leavesExact 1 t = owns (c : Thread nD τ) (ms0_1 t) fullShare ((dat0 V c).after 1 t) from by
      unfold Dat.leavesExact; rw [liveAt0_1_C t (fun h => h0 ((hcond0_0 t).mp h)) ((hcond0_1 t).mpr h1) ((hcond0_2 t).mpr h2)], after0_1]
        rw [show (dat0 V c).leavesExact 2 t = owns (c : Thread nD τ) (ms0_2 t) fullShare ((dat0 V c).after 2 t) from by
      unfold Dat.leavesExact; rw [liveAt0_2_C t (fun h => h0 ((hcond0_0 t).mp h)) ((hcond0_1 t).mpr h1) ((hcond0_2 t).mpr h2)], after0_2]
        by_cases hz : t.val = 0
        · exfalso; have hN : t.val < 12 := lt_of_lt_of_eq t.isLt (show cfg0.N = 12 from N_0); omega
        · rw [PhiS_castSucc V c t, PhiS_pos V c _ _ hz]
          rw [outsAt0_C V c t h0 h1 h2]
          unfold out0_C_1 out0_C_2 sout0_C_0; (try dsimp only)
          iintro ⟨⟨HS0, Hg⟩, Ho, ⟨%d0, H0⟩, ⟨%d1, H1⟩, ⟨%d2, H2⟩⟩
          iapply ((kernelRun0_C c (grid0.coords t) _ _ _ _ _ _ _ _ (fun h => h0 ((hcond0_0 t).mp h)) ((hcond0_1 t).mpr h1) ((hcond0_2 t).mpr h2) (iblk0 V c 0 t) _).2.2.2 Set.univ _)
          isplitl [H0]; · iexact H0
          isplitl [H1]; · iexists _; iexact H1
          isplitl [H2]; · iexists _; iexact H2
          isplitl [HS0]; · iexact HS0
          iintro ⟨H0, ⟨%e1, H1⟩, ⟨%e2, H2⟩, ⟨%es0, HS0⟩⟩
          isplitl [HS0 Hg]
          · isplitl [HS0]
            · unfold owns; iexists _; isplitr
              swap; · iexact HS0
              ipureintro; exact View.read_writes_of_cover _ _ _ _ _ (scover0_C_0 c _ _ _ _ _ _ _ _ _ _ _ _ _ _)
            iexact Hg
          isplitl [Ho]; · iexact Ho
          isplitl [H0]; · iexact H0
          isplitl [H1]
          · unfold owns; iexists _; isplitr
            swap; · iexact H1
            ipureintro; exact View.read_writes_of_cover _ _ _ _ _ (cover0_C_1 c _ _ _ _ _ _ _ _ _ _ _ _ _ _)
          unfold owns; iexists _; isplitr
          swap; · iexact H2
          ipureintro; exact View.read_writes_of_cover _ _ _ _ _ (cover0_C_2 c _ _ _ _ _ _ _ _ _ _ _ _ _ _)
      · rw [show (dat0 V c).leavesExact 0 t = owns (c : Thread nD τ) (ms0_0 t) fullShare ((dat0 V c).after 0 t) from by
      unfold Dat.leavesExact; rw [liveAt0_0 t], after0_0]
        rw [Dat.leavesExact_idle (dat0 V c) 1 t (idleAt0_1_B t (fun h => h0 ((hcond0_0 t).mp h)) ((hcond0_1 t).mpr h1) (fun h => h2 ((hcond0_2 t).mp h))) (noFlush0_1_B t (fun h => h0 ((hcond0_0 t).mp h)) ((hcond0_1 t).mpr h1) (fun h => h2 ((hcond0_2 t).mp h)))]
        rw [Dat.leavesExact_idle (dat0 V c) 2 t (idleAt0_2_B t (fun h => h0 ((hcond0_0 t).mp h)) ((hcond0_1 t).mpr h1) (fun h => h2 ((hcond0_2 t).mp h))) (noFlush0_2_B t (fun h => h0 ((hcond0_0 t).mp h)) ((hcond0_1 t).mpr h1) (fun h => h2 ((hcond0_2 t).mp h)))]
        by_cases hz : t.val = 0
        · exfalso; have hN : t.val < 12 := lt_of_lt_of_eq t.isLt (show cfg0.N = 12 from N_0); omega
        · rw [PhiS_castSucc V c t, PhiS_pos V c _ _ hz]
          rw [outsAt0_B V c t h0 h1 h2]
          unfold sout0_B_0; (try dsimp only)
          iintro ⟨⟨HS0, Hg⟩, Ho, ⟨%d0, H0⟩, ⟨%d1, H1⟩, ⟨%d2, H2⟩⟩
          iapply ((kernelRun0_B c (grid0.coords t) _ _ _ _ _ _ _ _ (fun h => h0 ((hcond0_0 t).mp h)) ((hcond0_1 t).mpr h1) (fun h => h2 ((hcond0_2 t).mp h)) (iblk0 V c 0 t) _).2.2.2 _ _ Set.univ _)
          isplitl [H0]; · iexact H0
          isplitl [H1]; · iexact H1
          isplitl [H2]; · iexact H2
          isplitl [HS0]; · iexact HS0
          iintro ⟨H0, H1, H2, ⟨%es0, HS0⟩⟩
          isplitl [HS0 Hg]
          · isplitl [HS0]
            · unfold owns; iexists _; isplitr
              swap; · iexact HS0
              ipureintro; exact View.read_writes_of_cover _ _ _ _ _ (scover0_B_0 c _ _ _ _ _ _ _ _ _ _ _ _ _ _)
            iexact Hg
          isplitl [Ho]; · iexact Ho
          isplitl [H0]; · iexact H0
          isplitl [H1]; · iexists _; iexact H1
          iexists _; iexact H2
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region (`ΦA`) is the invariant before the first point. -/
theorem hin (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨HS0, Hg⟩
  isplitl [HS0]
  · iexists _; iexact HS0
  iexact Hg

/-- The same after the last point. -/
theorem hout (c : Dev nD) : (dat0 V c).Φ (Fin.last cfg0.N) ⊢ Pipeline.ΦA spec0 c :=
  Phi_out V c _ (by rw [Fin.val_last]; have : cfg0.N = 12 := N_0; omega)

end Cert.Kernel.Run

end
-- ==== Proof.Kernel.Region1.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

/-! Region 1 (the products): blocks, the body run, the pipeline's proof data and its body obligation, at any entry contents `V`. -/

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # REGION 1 of @main: custom_call 1, `cc1_wgrad` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 6, through which its contents are stated (`View.read_writes_of_cover`: the
    choice does not matter). -/
abbrev VO1_6 : View sig .tc .vmem S2048x512 .f32 := (Memref.whole cc1_stg6_0 : Memref sig .tc .vmem S2048x512 .f32).view
/-- One staging buffer of output window 7, through which its contents are stated (`View.read_writes_of_cover`: the
    choice does not matter). -/
abbrev VO1_7 : View sig .tc .vmem S6144x512 .fp8e5m2 := (Memref.whole cc1_stg7_0 : Memref sig .tc .vmem S6144x512 .fp8e5m2).view
/-- Each window's current staging memref at point `t`, spelled as the pipeline passes it (`bodyAt1`), and its wholeness. -/
abbrev ms1_0 (t : Fin cfg1.N) : Memref sig .tc .smem S1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S6144x2048 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S6144x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2048x512 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S6144x512 .fp8e5m2 := win1_7.stage (cfg1.slots t 7)
abbrev hs1_7 (t : Fin cfg1.N) : (ms1_7 t).IsWhole := hstage1_7 ((cfg1.slots t 7).cast nbuf1_7)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .smem S1 .f32) (harg1 : arg1.IsWhole) (arg2 : Memref sig .tc .vmem S8x128 .f32) (harg2 : arg2.IsWhole) (arg3 : Memref sig .tc .vmem S8x128 .f32) (harg3 : arg3.IsWhole) (arg4 : Memref sig .tc .vmem S6144x2048 .fp8e4m3) (harg4 : arg4.IsWhole) (arg5 : Memref sig .tc .vmem S6144x512 .bf16) (harg5 : arg5.IsWhole) (arg6 : Memref sig .tc .vmem S2048x512 .f32) (harg6 : arg6.IsWhole) (arg7 : Memref sig .tc .vmem S2048x512 .f32) (harg7 : arg7.IsWhole) (arg8 : Memref sig .tc .vmem S6144x512 .fp8e5m2) (harg8 : arg8.IsWhole)
    (x0 : Vec F S1 .f32) (x1 : Vec F S8x128 .f32) (x2 : Vec F S8x128 .f32) (x3 : Vec F S6144x2048 .fp8e4m3) (x4 : Vec F S6144x512 .bf16) (x5 : Vec F S2048x512 .f32) :
    Σ' (L6 : List (View.Piece (Elt F) S2048x512 .f32)), { L7 : List (View.Piece (Elt F) S6144x512 .fp8e5m2) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc1_wgrad i arg1 harg1 arg2 harg2 arg3 harg3 arg4 harg4 arg5 harg5 arg6 harg6 arg7 harg7 arg8 harg8) K } := by
  refine ⟨?_, ?_, fun E K => ?run⟩
  case run =>
    simp only [cc1_wgrad_eq_skeleton]; unfold cc1_wgrad_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

/-- The run's pieces for output 6 tile its block (4 stores of `S512x512`, checked by the kernel's evaluation: Lib/Ring.lean `Piece.tiledL`, linear in the pieces, through a loop's `@[irreducible]` trip theorem too), so they cover it. -/
theorem cover1_A_6 (c : Dev nD) (i : grid1.Coords) (arg1 : Memref sig .tc .smem S1 .f32) (harg1 : arg1.IsWhole) (arg2 : Memref sig .tc .vmem S8x128 .f32) (harg2 : arg2.IsWhole) (arg3 : Memref sig .tc .vmem S8x128 .f32) (harg3 : arg3.IsWhole) (arg4 : Memref sig .tc .vmem S6144x2048 .fp8e4m3) (harg4 : arg4.IsWhole) (arg5 : Memref sig .tc .vmem S6144x512 .bf16) (harg5 : arg5.IsWhole) (arg6 : Memref sig .tc .vmem S2048x512 .f32) (harg6 : arg6.IsWhole) (arg7 : Memref sig .tc .vmem S2048x512 .f32) (harg7 : arg7.IsWhole) (arg8 : Memref sig .tc .vmem S6144x512 .fp8e5m2) (harg8 : arg8.IsWhole)
    (x0 : Vec F S1 .f32) (x1 : Vec F S8x128 .f32) (x2 : Vec F S8x128 .f32) (x3 : Vec F S6144x2048 .fp8e4m3) (x4 : Vec F S6144x512 .bf16) (x5 : Vec F S2048x512 .f32) (y : S2048x512.Idx) :
    ∃ pc ∈ (kernelRun1_A c i arg1 harg1 arg2 harg2 arg3 harg3 arg4 harg4 arg5 harg5 arg6 harg6 arg7 harg7 arg8 harg8 x0 x1 x2 x3 x4 x5).1, y ∈ pc.1.set :=
  View.cover_of_tiledL (kernelRun1_A c i arg1 harg1 arg2 harg2 arg3 harg3 arg4 harg4 arg5 harg5 arg6 harg6 arg7 harg7 arg8 harg8 x0 x1 x2 x3 x4 x5).1 S512x512.size (by sl_kernel_rfl) y

/-- What the run leaves in output 6's staging buffer: its pieces read back over junk. -/
def out1_A_6 (c : Dev nD) (i : grid1.Coords) (arg1 : Memref sig .tc .smem S1 .f32) (harg1 : arg1.IsWhole) (arg2 : Memref sig .tc .vmem S8x128 .f32) (harg2 : arg2.IsWhole) (arg3 : Memref sig .tc .vmem S8x128 .f32) (harg3 : arg3.IsWhole) (arg4 : Memref sig .tc .vmem S6144x2048 .fp8e4m3) (harg4 : arg4.IsWhole) (arg5 : Memref sig .tc .vmem S6144x512 .bf16) (harg5 : arg5.IsWhole) (arg6 : Memref sig .tc .vmem S2048x512 .f32) (harg6 : arg6.IsWhole) (arg7 : Memref sig .tc .vmem S2048x512 .f32) (harg7 : arg7.IsWhole) (arg8 : Memref sig .tc .vmem S6144x512 .fp8e5m2) (harg8 : arg8.IsWhole)
    (x0 : Vec F S1 .f32) (x1 : Vec F S8x128 .f32) (x2 : Vec F S8x128 .f32) (x3 : Vec F S6144x2048 .fp8e4m3) (x4 : Vec F S6144x512 .bf16) (x5 : Vec F S2048x512 .f32) : Vec F S2048x512 .f32 :=
  VO1_6.read (Elt F) (VO1_6.writes (Elt F) VO1_6.junk (kernelRun1_A c i arg1 harg1 arg2 harg2 arg3 harg3 arg4 harg4 arg5 harg5 arg6 harg6 arg7 harg7 arg8 harg8 x0 x1 x2 x3 x4 x5).1)

/-- The run's pieces for output 7 tile its block (1 store of `S6144x512`, checked by the kernel's evaluation: Lib/Ring.lean `Piece.tiledL`, linear in the pieces, through a loop's `@[irreducible]` trip theorem too), so they cover it. -/
theorem cover1_A_7 (c : Dev nD) (i : grid1.Coords) (arg1 : Memref sig .tc .smem S1 .f32) (harg1 : arg1.IsWhole) (arg2 : Memref sig .tc .vmem S8x128 .f32) (harg2 : arg2.IsWhole) (arg3 : Memref sig .tc .vmem S8x128 .f32) (harg3 : arg3.IsWhole) (arg4 : Memref sig .tc .vmem S6144x2048 .fp8e4m3) (harg4 : arg4.IsWhole) (arg5 : Memref sig .tc .vmem S6144x512 .bf16) (harg5 : arg5.IsWhole) (arg6 : Memref sig .tc .vmem S2048x512 .f32) (harg6 : arg6.IsWhole) (arg7 : Memref sig .tc .vmem S2048x512 .f32) (harg7 : arg7.IsWhole) (arg8 : Memref sig .tc .vmem S6144x512 .fp8e5m2) (harg8 : arg8.IsWhole)
    (x0 : Vec F S1 .f32) (x1 : Vec F S8x128 .f32) (x2 : Vec F S8x128 .f32) (x3 : Vec F S6144x2048 .fp8e4m3) (x4 : Vec F S6144x512 .bf16) (x5 : Vec F S2048x512 .f32) (y : S6144x512.Idx) :
    ∃ pc ∈ (kernelRun1_A c i arg1 harg1 arg2 harg2 arg3 harg3 arg4 harg4 arg5 harg5 arg6 harg6 arg7 harg7 arg8 harg8 x0 x1 x2 x3 x4 x5).2.1, y ∈ pc.1.set :=
  View.cover_of_tiledL (kernelRun1_A c i arg1 harg1 arg2 harg2 arg3 harg3 arg4 harg4 arg5 harg5 arg6 harg6 arg7 harg7 arg8 harg8 x0 x1 x2 x3 x4 x5).2.1 S6144x512.size (by sl_kernel_rfl) y

/-- What the run leaves in output 7's staging buffer: its pieces read back over junk. -/
def out1_A_7 (c : Dev nD) (i : grid1.Coords) (arg1 : Memref sig .tc .smem S1 .f32) (harg1 : arg1.IsWhole) (arg2 : Memref sig .tc .vmem S8x128 .f32) (harg2 : arg2.IsWhole) (arg3 : Memref sig .tc .vmem S8x128 .f32) (harg3 : arg3.IsWhole) (arg4 : Memref sig .tc .vmem S6144x2048 .fp8e4m3) (harg4 : arg4.IsWhole) (arg5 : Memref sig .tc .vmem S6144x512 .bf16) (harg5 : arg5.IsWhole) (arg6 : Memref sig .tc .vmem S2048x512 .f32) (harg6 : arg6.IsWhole) (arg7 : Memref sig .tc .vmem S2048x512 .f32) (harg7 : arg7.IsWhole) (arg8 : Memref sig .tc .vmem S6144x512 .fp8e5m2) (harg8 : arg8.IsWhole)
    (x0 : Vec F S1 .f32) (x1 : Vec F S8x128 .f32) (x2 : Vec F S8x128 .f32) (x3 : Vec F S6144x2048 .fp8e4m3) (x4 : Vec F S6144x512 .bf16) (x5 : Vec F S2048x512 .f32) : Vec F S6144x512 .fp8e5m2 :=
  VO1_7.read (Elt F) (VO1_7.writes (Elt F) VO1_7.junk (kernelRun1_A c i arg1 harg1 arg2 harg2 arg3 harg3 arg4 harg4 arg5 harg5 arg6 harg6 arg7 harg7 arg8 harg8 x0 x1 x2 x3 x4 x5).2.1)

/-! ## What the outputs hold after each point -/

/-- What the outputs' staging buffers hold after the body at point `t` (as a tuple, in window order): the run's contents at
    the point's memrefs and input blocks. -/
def outsAt1 (c : Dev nD) (t : Fin cfg1.N) : Vec F S2048x512 .f32 × Vec F S6144x512 .fp8e5m2 :=
  (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t) (iblk1 V c 4 t) (iblk1 V c 5 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t) (iblk1 V c 4 t) (iblk1 V c 5 t))

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t).1
    | ⟨7, _⟩ => (outsAt1 V c t).2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t).1 := by dsimp only [dat1]
theorem after1_7 (c : Dev nD) (t : Fin cfg1.N) : (dat1 V c).after 7 t = (outsAt1 V c t).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

set_option maxHeartbeats 800000 in
/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  unfold outsAt1
  unfold out1_A_6 out1_A_7; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun1_A c (grid1.coords t) _ _ _ _ _ _ _ _ _ _ _ _ _ _ _ _ (iblk1 V c 0 t) (iblk1 V c 1 t) (iblk1 V c 2 t) (iblk1 V c 3 t) (iblk1 V c 4 t) (iblk1 V c 5 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover1_A_6 c _ _ _ _ _ _ _ _ _ _ _ _ _ _ _ _ _ _ _ _ _ _ _)
  unfold owns; iexists _; isplitr
  swap; · iexact H7
  ipureintro; exact View.read_writes_of_cover _ _ _ _ _ (cover1_A_7 c _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.Kernel.Run

end
-- ==== Proof.Kernel.RunMain.lean ====
module

public import proofs.«01_k».proof.Proof.Kernel.Region0
public import proofs.«01_k».proof.Proof.Kernel.Region1

/-! The whole launch: host stretches and the two regions in order, every buffer followed from boundary to boundary. -/

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v3]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v5, main_v6, main_v7]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin (V1 m ρ) c); unfold Pipeline.ΦA
    iintro ⟨Hp, -, Hr⟩
    isplitl [Hr]; · iexact Hr
    iexact Hp
  hout c := by
    rw [Pipeline.ownSems0_none]
    refine BIBase.Entails.trans (hout (V1 m ρ) c) ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run with every buffer read: every weakly fair execution of @main ends, every buffer of the TensorCores holds what
    the last boundary's contents say, and every semaphore counter of the machine is zero. -/
theorem run_bufs : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame: the same run, read at the argument arrays, which end as launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c)⟩, h.2⟩)
    (run_bufs m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h => h.1) (frame m ρ)

end Cert.Kernel.Run

end
-- ==== Proof.KernelIdeal.Runs0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

/-! Region 0 (the amax call): window blocks, branch conditions and staging memrefs, at any entry contents `V`. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 12 = 0 :=
  (fun t => by
    have ht : t.val < 12 := Nat.lt_of_lt_of_eq t.isLt N_0
    have e0 : (grid0.coords t 0).val = t.val / 1 % 12 := Pipeline.Grid.coords_val t 0 (by decide) rfl
    simp only [cond0_0, e0]
    word_cmp
   : ∀ t : Fin grid0.N, cond0_0 (grid0.coords t) ↔ t.val % 12 = 0)

/-- The condition of the body's `scf.if` 1 (`k0_h2`), from the grid coordinates (the skeleton's scalar
    chain substituted). -/
abbrev cond0_1 (i : grid0.Coords) : Prop := (Scalar.cmpi .ne (Scalar.extui (Scalar.cmpi .sgt (BitVec.ofNat 32 (i 0).val) 0#32)) 0#32) = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 12 = 11 :=
  (fun t => by
    have ht : t.val < 12 := Nat.lt_of_lt_of_eq t.isLt N_0
    have e0 : (grid0.coords t 0).val = t.val / 1 % 12 := Pipeline.Grid.coords_val t 0 (by decide) rfl
    simp only [cond0_2, k0_cond3, e0]
    word_cmp
   : ∀ t : Fin grid0.N, cond0_2 (grid0.coords t) ↔ t.val % 12 = 11)

/-! ## Where the windows are idle (the printed configuration's table `Cfg.idle`) -/

/-- Window 0 is never idle (an input). -/
theorem liveAt0_0 : ∀ t : Fin cfg0.N, cfg0.idle 0 (grid0.coords t) = false := fun _ => rfl
/-- At the points of case A the printed configuration (`Cfg.idle`) calls output 1 idle: the case stores nothing into it. -/
theorem idleAt0_1_A : ∀ t : Fin cfg0.N, cond0_0 (grid0.coords t) → ¬cond0_1 (grid0.coords t) → ¬cond0_2 (grid0.coords t) → cfg0.idle 1 (grid0.coords t) = true := by decide +kernel
/-- At the points of case A the pipeline does not write output 1's block back. -/
theorem noFlush0_1_A : ∀ t : Fin cfg0.N, cond0_0 (grid0.coords t) → ¬cond0_1 (grid0.coords t) → ¬cond0_2 (grid0.coords t) → (cfg0.win 1).flush t = false := by decide +kernel
/-- At the points of case B the printed configuration (`Cfg.idle`) calls output 1 idle: the case stores nothing into it. -/
theorem idleAt0_1_B : ∀ t : Fin cfg0.N, ¬cond0_0 (grid0.coords t) → cond0_1 (grid0.coords t) → ¬cond0_2 (grid0.coords t) → cfg0.idle 1 (grid0.coords t) = true := by decide +kernel
/-- At the points of case B the pipeline does not write output 1's block back. -/
theorem noFlush0_1_B : ∀ t : Fin cfg0.N, ¬cond0_0 (grid0.coords t) → cond0_1 (grid0.coords t) → ¬cond0_2 (grid0.coords t) → (cfg0.win 1).flush t = false := by decide +kernel
/-- At the points of case C the printed configuration (`Cfg.idle`) calls output 1 live: the case stores into it. -/
theorem liveAt0_1_C : ∀ t : Fin cfg0.N, ¬cond0_0 (grid0.coords t) → cond0_1 (grid0.coords t) → cond0_2 (grid0.coords t) → cfg0.idle 1 (grid0.coords t) = false := by decide +kernel
/-- At the points of case A the printed configuration (`Cfg.idle`) calls output 2 idle: the case stores nothing into it. -/
theorem idleAt0_2_A : ∀ t : Fin cfg0.N, cond0_0 (grid0.coords t) → ¬cond0_1 (grid0.coords t) → ¬cond0_2 (grid0.coords t) → cfg0.idle 2 (grid0.coords t) = true := by decide +kernel
/-- At the points of case A the pipeline does not write output 2's block back. -/
theorem noFlush0_2_A : ∀ t : Fin cfg0.N, cond0_0 (grid0.coords t) → ¬cond0_1 (grid0.coords t) → ¬cond0_2 (grid0.coords t) → (cfg0.win 2).flush t = false := by decide +kernel
/-- At the points of case B the printed configuration (`Cfg.idle`) calls output 2 idle: the case stores nothing into it. -/
theorem idleAt0_2_B : ∀ t : Fin cfg0.N, ¬cond0_0 (grid0.coords t) → cond0_1 (grid0.coords t) → ¬cond0_2 (grid0.coords t) → cfg0.idle 2 (grid0.coords t) = true := by decide +kernel
/-- At the points of case B the pipeline does not write output 2's block back. -/
theorem noFlush0_2_B : ∀ t : Fin cfg0.N, ¬cond0_0 (grid0.coords t) → cond0_1 (grid0.coords t) → ¬cond0_2 (grid0.coords t) → (cfg0.win 2).flush t = false := by decide +kernel
/-- At the points of case C the printed configuration (`Cfg.idle`) calls output 2 live: the case stores into it. -/
theorem liveAt0_2_C : ∀ t : Fin cfg0.N, ¬cond0_0 (grid0.coords t) → cond0_1 (grid0.coords t) → cond0_2 (grid0.coords t) → cfg0.idle 2 (grid0.coords t) = false := by decide +kernel

/-! ## The kernel body on any staging memrefs: a subtype the run finds -/

/-- One staging buffer of output window 1, through which its contents are stated (`View.read_writes_of_cover`: the
    choice does not matter). -/
abbrev VO0_1 : View sig .tc .vmem S8x128 .f32 := (Memref.whole cc0_stg1_0 : Memref sig .tc .vmem S8x128 .f32).view
/-- One staging buffer of output window 2, through which its contents are stated (`View.read_writes_of_cover`: the
    choice does not matter). -/
abbrev VO0_2 : View sig .tc .vmem S8x128 .f32 := (Memref.whole cc0_stg2_0 : Memref sig .tc .vmem S8x128 .f32).view
/-- Each window's current staging memref at point `t`, spelled as the pipeline passes it (`bodyAt0`), and its wholeness. -/
abbrev ms0_0 (t : Fin cfg0.N) : Memref sig .tc .vmem S512x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S16x8192 .bf16 := Memref.whole cc0_scratch0
/-- The scratch `arg4` the kernel carries between points, as a view: what it holds is stated through it. -/
abbrev VS0_0 : View sig .tc .vmem S16x8192 .bf16 := scM0_0.view

/-- What the first region holds but never touches: the second region's staging buffers, each at some contents. -/
def others (c : Dev nD) : sProp 𝕄 := iprop((∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg0_0), ((c : Thread nD τ).loc cc1_stg0_0) ↦{fullShare} f))
/-- Beside the scratch, what every point of region 0 passes along unread: `others` and the generator register. -/
def keep (c : Dev nD) : sProp 𝕄 := iprop(others (F := F) c ∗ (∃ r, prngReg c r))

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ keep (F := F) c) := by
  unfold Pipeline.ΦA keep others; rw [scopedRest0_eq]; simp only [scM0_0, owns_whole]; exact BI.Entails.antisymm BI.sep_assoc BI.sep_assoc'

end Cert.KernelIdeal.Run

end
-- ==== Proof.KernelIdeal.RunA0.lean ====
module

public import proofs.«01_k».proof.Proof.KernelIdeal.Runs0

/-! Region 0: the body run in case A (which `scf.if`s are taken). -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken: points 0), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x8192 .bf16) (harg4 : arg4.IsWhole) (hc0 : cond0_0 i) (hc1 : ¬cond0_1 i) (hc2 : ¬cond0_2 i)
    (x0 : Vec F S512x8192 .bf16) :
    Σ' (L1 : List (View.Piece (Elt F) S8x128 .f32)), Σ' (L2 : List (View.Piece (Elt F) S8x128 .f32)), { LS0 : List (View.Piece (Elt F) S16x8192 .bf16) //
      ∀ (xi1 : Vec F S8x128 .f32) (xi2 : Vec F S8x128 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0_dy_amax i arg1 harg1 arg2 harg2 arg3 harg3 arg4 harg4) K } := by
  refine ⟨[], [], ?_, fun xi1 xi2 E K => ?run⟩
  case run =>
    simp only [cc0_dy_amax_eq_skeleton]; unfold cc0_dy_amax_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Run

end
-- ==== Proof.KernelIdeal.RunB0.lean ====
module

public import proofs.«01_k».proof.Proof.KernelIdeal.Runs0

/-! Region 0: the body run in case B (which `scf.if`s are taken). -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, … 10: 10 of 12), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x8192 .bf16) (harg4 : arg4.IsWhole) (hc0 : ¬cond0_0 i) (hc1 : cond0_1 i) (hc2 : ¬cond0_2 i)
    (x0 : Vec F S512x8192 .bf16) (xs0 : Vec F S16x8192 .bf16) :
    Σ' (L1 : List (View.Piece (Elt F) S8x128 .f32)), Σ' (L2 : List (View.Piece (Elt F) S8x128 .f32)), { LS0 : List (View.Piece (Elt F) S16x8192 .bf16) //
      ∀ (xi1 : Vec F S8x128 .f32) (xi2 : Vec F S8x128 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0_dy_amax i arg1 harg1 arg2 harg2 arg3 harg3 arg4 harg4) K } := by
  refine ⟨[], [], ?_, fun xi1 xi2 E K => ?run⟩
  case run =>
    simp only [cc0_dy_amax_eq_skeleton]; unfold cc0_dy_amax_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Run

end
-- ==== Proof.KernelIdeal.RunC0.lean ====
module

public import proofs.«01_k».proof.Proof.KernelIdeal.Runs0

/-! Region 0: the body run in case C (which `scf.if`s are taken). -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken: points 11), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S512x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x8192 .bf16) (harg4 : arg4.IsWhole) (hc0 : ¬cond0_0 i) (hc1 : cond0_1 i) (hc2 : cond0_2 i)
    (x0 : Vec F S512x8192 .bf16) (xs0 : Vec F S16x8192 .bf16) :
    Σ' (L1 : List (View.Piece (Elt F) S8x128 .f32)), Σ' (L2 : List (View.Piece (Elt F) S8x128 .f32)), { LS0 : List (View.Piece (Elt F) S16x8192 .bf16) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0_dy_amax i arg1 harg1 arg2 harg2 arg3 harg3 arg4 harg4) K } := by
  refine ⟨?_, ?_, ?_, fun E K => ?run⟩
  case run =>
    simp only [cc0_dy_amax_eq_skeleton]; unfold cc0_dy_amax_skel
    simp only [k0_part1_eq_skeleton, k0_part2_eq_skeleton]
    unfold owns
    iintro ⟨⟨%f0, %hf0, H0⟩, ⟨%d1, %f1, -, H1⟩, ⟨%d2, %f2, -, H2⟩, ⟨%fs0, %hfs0, HS0⟩, Hk⟩
    obtain rfl := harg1.eq_unread hf0; obtain rfl := harg4.eq_unread hfs0
    sl_exec (disch := first | sl_exact hc0 | sl_exact hc1 | sl_exact hc2)
    sl_step
    iapply Hk
    isplitl [H0]
    · iexists _; isplitr; · ipureintro; exact harg1.read_unread _
      iexact H0
    isplitl [H1]; · iexists _; iexact H1
    isplitl [H2]; · iexists _; iexact H2
    iexists _; iexact HS0

end Cert.KernelIdeal.Run

end
-- ==== Proof.KernelIdeal.Region0.lean ====
module

public import proofs.«01_k».proof.Proof.KernelIdeal.RunA0
public import proofs.«01_k».proof.Proof.KernelIdeal.RunB0
public import proofs.«01_k».proof.Proof.KernelIdeal.RunC0

/-! Region 0: what each point leaves, the scratch carried between points, the pipeline's proof data and its body obligation. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- Case A stores nothing into output 1 (the window is idle at its points and not written back there):
    no pieces — a placeholder (junk read back) that nothing consults, since at these points the window is neither
    written back nor read at the next point (Lib/Pipeline.lean "Idle points"). -/
def out0_A_1 (c : Dev nD) (i : grid0.Coords) (arg1 : Memref sig .tc .vmem S512x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x8192 .bf16) (harg4 : arg4.IsWhole) (hc0 : cond0_0 i) (hc1 : ¬cond0_1 i) (hc2 : ¬cond0_2 i)
    (x0 : Vec F S512x8192 .bf16) : Vec F S8x128 .f32 :=
  VO0_1.read (Elt F) (VO0_1.writes (Elt F) VO0_1.junk (kernelRun0_A c i arg1 harg1 arg2 harg2 arg3 harg3 arg4 harg4 hc0 hc1 hc2 x0).1)

/-- Case A stores nothing into output 2 (the window is idle at its points and not written back there):
    no pieces — a placeholder (junk read back) that nothing consults, since at these points the window is neither
    written back nor read at the next point (Lib/Pipeline.lean "Idle points"). -/
def out0_A_2 (c : Dev nD) (i : grid0.Coords) (arg1 : Memref sig .tc .vmem S512x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x8192 .bf16) (harg4 : arg4.IsWhole) (hc0 : cond0_0 i) (hc1 : ¬cond0_1 i) (hc2 : ¬cond0_2 i)
    (x0 : Vec F S512x8192 .bf16) : Vec F S8x128 .f32 :=
  VO0_2.read (Elt F) (VO0_2.writes (Elt F) VO0_2.junk (kernelRun0_A c i arg1 harg1 arg2 harg2 arg3 harg3 arg4 harg4 hc0 hc1 hc2 x0).2.1)

/-- Case A's pieces for scratch `arg4`, which the kernel carries between points, cover it: 1 piece of `S16x8192` tiling it (Lib/Ring.lean `Piece.tiledL`). -/
theorem scover0_A_0 (c : Dev nD) (i : grid0.Coords) (arg1 : Memref sig .tc .vmem S512x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x8192 .bf16) (harg4 : arg4.IsWhole) (hc0 : cond0_0 i) (hc1 : ¬cond0_1 i) (hc2 : ¬cond0_2 i)
    (x0 : Vec F S512x8192 .bf16) (y : S16x8192.Idx) :
    ∃ pc ∈ (kernelRun0_A c i arg1 harg1 arg2 harg2 arg3 harg3 arg4 harg4 hc0 hc1 hc2 x0).2.2.1, y ∈ pc.1.set :=
  View.cover_of_tiledL (kernelRun0_A c i arg1 harg1 arg2 harg2 arg3 harg3 arg4 harg4 hc0 hc1 hc2 x0).2.2.1 S16x8192.size (by sl_kernel_rfl) y

/-- What case A leaves in scratch `arg4`: its pieces read back over junk. -/
def sout0_A_0 (c : Dev nD) (i : grid0.Coords) (arg1 : Memref sig .tc .vmem S512x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x8192 .bf16) (harg4 : arg4.IsWhole) (hc0 : cond0_0 i) (hc1 : ¬cond0_1 i) (hc2 : ¬cond0_2 i)
    (x0 : Vec F S512x8192 .bf16) : Vec F S16x8192 .bf16 :=
  VS0_0.read (Elt F) (VS0_0.writes (Elt F) VS0_0.junk (kernelRun0_A c i arg1 harg1 arg2 harg2 arg3 harg3 arg4 harg4 hc0 hc1 hc2 x0).2.2.1)

/-- Case B stores nothing into output 1 (the window is idle at its points and not written back there):
    no pieces — a placeholder (junk read back) that nothing consults, since at these points the window is neither
    written back nor read at the next point (Lib/Pipeline.lean "Idle points"). -/
def out0_B_1 (c : Dev nD) (i : grid0.Coords) (arg1 : Memref sig .tc .vmem S512x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x8192 .bf16) (harg4 : arg4.IsWhole) (hc0 : ¬cond0_0 i) (hc1 : cond0_1 i) (hc2 : ¬cond0_2 i)
    (x0 : Vec F S512x8192 .bf16) (xs0 : Vec F S16x8192 .bf16) : Vec F S8x128 .f32 :=
  VO0_1.read (Elt F) (VO0_1.writes (Elt F) VO0_1.junk (kernelRun0_B c i arg1 harg1 arg2 harg2 arg3 harg3 arg4 harg4 hc0 hc1 hc2 x0 xs0).1)

/-- Case B stores nothing into output 2 (the window is idle at its points and not written back there):
    no pieces — a placeholder (junk read back) that nothing consults, since at these points the window is neither
    written back nor read at the next point (Lib/Pipeline.lean "Idle points"). -/
def out0_B_2 (c : Dev nD) (i : grid0.Coords) (arg1 : Memref sig .tc .vmem S512x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x8192 .bf16) (harg4 : arg4.IsWhole) (hc0 : ¬cond0_0 i) (hc1 : cond0_1 i) (hc2 : ¬cond0_2 i)
    (x0 : Vec F S512x8192 .bf16) (xs0 : Vec F S16x8192 .bf16) : Vec F S8x128 .f32 :=
  VO0_2.read (Elt F) (VO0_2.writes (Elt F) VO0_2.junk (kernelRun0_B c i arg1 harg1 arg2 harg2 arg3 harg3 arg4 harg4 hc0 hc1 hc2 x0 xs0).2.1)

/-- Case B's pieces for scratch `arg4`, which the kernel carries between points, cover it: 1 piece of `S16x8192` tiling it (Lib/Ring.lean `Piece.tiledL`). -/
theorem scover0_B_0 (c : Dev nD) (i : grid0.Coords) (arg1 : Memref sig .tc .vmem S512x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x8192 .bf16) (harg4 : arg4.IsWhole) (hc0 : ¬cond0_0 i) (hc1 : cond0_1 i) (hc2 : ¬cond0_2 i)
    (x0 : Vec F S512x8192 .bf16) (xs0 : Vec F S16x8192 .bf16) (y : S16x8192.Idx) :
    ∃ pc ∈ (kernelRun0_B c i arg1 harg1 arg2 harg2 arg3 harg3 arg4 harg4 hc0 hc1 hc2 x0 xs0).2.2.1, y ∈ pc.1.set :=
  View.cover_of_tiledL (kernelRun0_B c i arg1 harg1 arg2 harg2 arg3 harg3 arg4 harg4 hc0 hc1 hc2 x0 xs0).2.2.1 S16x8192.size (by sl_kernel_rfl) y

/-- What case B leaves in scratch `arg4`: its pieces read back over junk. -/
def sout0_B_0 (c : Dev nD) (i : grid0.Coords) (arg1 : Memref sig .tc .vmem S512x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x8192 .bf16) (harg4 : arg4.IsWhole) (hc0 : ¬cond0_0 i) (hc1 : cond0_1 i) (hc2 : ¬cond0_2 i)
    (x0 : Vec F S512x8192 .bf16) (xs0 : Vec F S16x8192 .bf16) : Vec F S16x8192 .bf16 :=
  VS0_0.read (Elt F) (VS0_0.writes (Elt F) VS0_0.junk (kernelRun0_B c i arg1 harg1 arg2 harg2 arg3 harg3 arg4 harg4 hc0 hc1 hc2 x0 xs0).2.2.1)

/-- Case C's pieces for output 1 tile its block (1 store of `S8x128`, checked by the kernel's evaluation: Lib/Ring.lean `Piece.tiledL`, linear in the pieces, through a loop's `@[irreducible]` trip theorem too), so they cover it. -/
theorem cover0_C_1 (c : Dev nD) (i : grid0.Coords) (arg1 : Memref sig .tc .vmem S512x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x8192 .bf16) (harg4 : arg4.IsWhole) (hc0 : ¬cond0_0 i) (hc1 : cond0_1 i) (hc2 : cond0_2 i)
    (x0 : Vec F S512x8192 .bf16) (xs0 : Vec F S16x8192 .bf16) (y : S8x128.Idx) :
    ∃ pc ∈ (kernelRun0_C c i arg1 harg1 arg2 harg2 arg3 harg3 arg4 harg4 hc0 hc1 hc2 x0 xs0).1, y ∈ pc.1.set :=
  View.cover_of_tiledL (kernelRun0_C c i arg1 harg1 arg2 harg2 arg3 harg3 arg4 harg4 hc0 hc1 hc2 x0 xs0).1 S8x128.size (by sl_kernel_rfl) y

/-- What case C leaves in output 1's staging buffer: its pieces read back over junk. -/
def out0_C_1 (c : Dev nD) (i : grid0.Coords) (arg1 : Memref sig .tc .vmem S512x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x8192 .bf16) (harg4 : arg4.IsWhole) (hc0 : ¬cond0_0 i) (hc1 : cond0_1 i) (hc2 : cond0_2 i)
    (x0 : Vec F S512x8192 .bf16) (xs0 : Vec F S16x8192 .bf16) : Vec F S8x128 .f32 :=
  VO0_1.read (Elt F) (VO0_1.writes (Elt F) VO0_1.junk (kernelRun0_C c i arg1 harg1 arg2 harg2 arg3 harg3 arg4 harg4 hc0 hc1 hc2 x0 xs0).1)

/-- Case C's pieces for output 2 tile its block (1 store of `S8x128`, checked by the kernel's evaluation: Lib/Ring.lean `Piece.tiledL`, linear in the pieces, through a loop's `@[irreducible]` trip theorem too), so they cover it. -/
theorem cover0_C_2 (c : Dev nD) (i : grid0.Coords) (arg1 : Memref sig .tc .vmem S512x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x8192 .bf16) (harg4 : arg4.IsWhole) (hc0 : ¬cond0_0 i) (hc1 : cond0_1 i) (hc2 : cond0_2 i)
    (x0 : Vec F S512x8192 .bf16) (xs0 : Vec F S16x8192 .bf16) (y : S8x128.Idx) :
    ∃ pc ∈ (kernelRun0_C c i arg1 harg1 arg2 harg2 arg3 harg3 arg4 harg4 hc0 hc1 hc2 x0 xs0).2.1, y ∈ pc.1.set :=
  View.cover_of_tiledL (kernelRun0_C c i arg1 harg1 arg2 harg2 arg3 harg3 arg4 harg4 hc0 hc1 hc2 x0 xs0).2.1 S8x128.size (by sl_kernel_rfl) y

/-- What case C leaves in output 2's staging buffer: its pieces read back over junk. -/
def out0_C_2 (c : Dev nD) (i : grid0.Coords) (arg1 : Memref sig .tc .vmem S512x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x8192 .bf16) (harg4 : arg4.IsWhole) (hc0 : ¬cond0_0 i) (hc1 : cond0_1 i) (hc2 : cond0_2 i)
    (x0 : Vec F S512x8192 .bf16) (xs0 : Vec F S16x8192 .bf16) : Vec F S8x128 .f32 :=
  VO0_2.read (Elt F) (VO0_2.writes (Elt F) VO0_2.junk (kernelRun0_C c i arg1 harg1 arg2 harg2 arg3 harg3 arg4 harg4 hc0 hc1 hc2 x0 xs0).2.1)

/-- Case C's pieces for scratch `arg4`, which the kernel carries between points, cover it: 1 piece of `S16x8192` tiling it (Lib/Ring.lean `Piece.tiledL`). -/
theorem scover0_C_0 (c : Dev nD) (i : grid0.Coords) (arg1 : Memref sig .tc .vmem S512x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x8192 .bf16) (harg4 : arg4.IsWhole) (hc0 : ¬cond0_0 i) (hc1 : cond0_1 i) (hc2 : cond0_2 i)
    (x0 : Vec F S512x8192 .bf16) (xs0 : Vec F S16x8192 .bf16) (y : S16x8192.Idx) :
    ∃ pc ∈ (kernelRun0_C c i arg1 harg1 arg2 harg2 arg3 harg3 arg4 harg4 hc0 hc1 hc2 x0 xs0).2.2.1, y ∈ pc.1.set :=
  View.cover_of_tiledL (kernelRun0_C c i arg1 harg1 arg2 harg2 arg3 harg3 arg4 harg4 hc0 hc1 hc2 x0 xs0).2.2.1 S16x8192.size (by sl_kernel_rfl) y

/-- What case C leaves in scratch `arg4`: its pieces read back over junk. -/
def sout0_C_0 (c : Dev nD) (i : grid0.Coords) (arg1 : Memref sig .tc .vmem S512x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x8192 .bf16) (harg4 : arg4.IsWhole) (hc0 : ¬cond0_0 i) (hc1 : cond0_1 i) (hc2 : cond0_2 i)
    (x0 : Vec F S512x8192 .bf16) (xs0 : Vec F S16x8192 .bf16) : Vec F S16x8192 .bf16 :=
  VS0_0.read (Elt F) (VS0_0.writes (Elt F) VS0_0.junk (kernelRun0_C c i arg1 harg1 arg2 harg2 arg3 harg3 arg4 harg4 hc0 hc1 hc2 x0 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S8x128 .f32 × Vec F S8x128 .f32 × Vec F S16x8192 .bf16
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩), out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩))
  | n + 1, hn =>
    if h0 : (n + 1) % 12 = 0 then
      if h1 : 1 ≤ (n + 1) then
        False.elim (by have hN : n + 1 < 12 := lt_of_lt_of_eq hn (show cfg0.N = 12 from N_0); omega)
      else
        if h2 : (n + 1) % 12 = 11 then
          False.elim (by have hN : n + 1 < 12 := lt_of_lt_of_eq hn (show cfg0.N = 12 from N_0); omega)
        else
          (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩), out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩))
    else
      if h1 : 1 ≤ (n + 1) then
        if h2 : (n + 1) % 12 = 11 then
          (out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2.2, out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2.2)
        else
          (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2.2, out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2.2)
      else
        False.elim (by have hN : n + 1 < 12 := lt_of_lt_of_eq hn (show cfg0.N = 12 from N_0); omega)

/-- `outsAt0` at a point of case A: that case's contents. -/
theorem outsAt0_A (c : Dev nD) (t : Fin cfg0.N) (h0 : t.val % 12 = 0) (h1 : ¬1 ≤ t.val) (h2 : ¬t.val % 12 = 11) :
    outsAt0 V c t.val t.isLt = (out0_A_1 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk0 V c 0 t), out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk0 V c 0 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk0 V c 0 t)) := by
  obtain ⟨n, hn⟩ := t
  cases n with
  | zero => exact rfl
  | succ n => exact (dif_pos h0).trans ((dif_neg h1).trans ((dif_neg h2).trans rfl))

/-- `outsAt0` at a point of case B: that case's contents, over what the point before left. -/
theorem outsAt0_B (c : Dev nD) (t : Fin cfg0.N) (h0 : ¬t.val % 12 = 0) (h1 : 1 ≤ t.val) (h2 : ¬t.val % 12 = 11) :
    outsAt0 V c t.val t.isLt = (out0_B_1 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2.2, out0_B_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 12 = 0) (h1 : 1 ≤ t.val) (h2 : t.val % 12 = 11) :
    outsAt0 V c t.val t.isLt = (out0_C_1 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2.2, out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2)) ∗ keep (F := F) c)

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2.2)) ∗ keep (F := F) c) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.2)) ∗ keep (F := F) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 12 := lt_of_lt_of_eq t.isLt (show cfg0.N = 12 from N_0)
  by_cases h0 : t.val % 12 = 0
  · by_cases h1 : 1 ≤ t.val
    · exfalso; omega
    · by_cases h2 : t.val % 12 = 11
      · exfalso; omega
      · rw [show (dat0 V c).leavesExact 0 t = owns (c : Thread nD τ) (ms0_0 t) fullShare ((dat0 V c).after 0 t) from by
      unfold Dat.leavesExact; rw [liveAt0_0 t], after0_0]
        rw [Dat.leavesExact_idle (dat0 V c) 1 t (idleAt0_1_A t ((hcond0_0 t).mpr h0) (fun h => h1 ((hcond0_1 t).mp h)) (fun h => h2 ((hcond0_2 t).mp h))) (noFlush0_1_A t ((hcond0_0 t).mpr h0) (fun h => h1 ((hcond0_1 t).mp h)) (fun h => h2 ((hcond0_2 t).mp h)))]
        rw [Dat.leavesExact_idle (dat0 V c) 2 t (idleAt0_2_A t ((hcond0_0 t).mpr h0) (fun h => h1 ((hcond0_1 t).mp h)) (fun h => h2 ((hcond0_2 t).mp h))) (noFlush0_2_A t ((hcond0_0 t).mpr h0) (fun h => h1 ((hcond0_1 t).mp h)) (fun h => h2 ((hcond0_2 t).mp h)))]
        by_cases hz : t.val = 0
        · rw [PhiS_castSucc V c t, PhiS_zero V c _ _ hz, PhiA0_eq]
          rw [outsAt0_A V c t h0 h1 h2]
          unfold sout0_A_0; (try dsimp only)
          iintro ⟨⟨HS0, Hg⟩, Ho, ⟨%d0, H0⟩, ⟨%d1, H1⟩, ⟨%d2, H2⟩⟩
          iapply ((kernelRun0_A c (grid0.coords t) _ _ _ _ _ _ _ _ ((hcond0_0 t).mpr h0) (fun h => h1 ((hcond0_1 t).mp h)) (fun h => h2 ((hcond0_2 t).mp h)) (iblk0 V c 0 t)).2.2.2 _ _ Set.univ _)
          isplitl [H0]; · iexact H0
          isplitl [H1]; · iexact H1
          isplitl [H2]; · iexact H2
          isplitl [HS0]; · iexact HS0
          iintro ⟨H0, H1, H2, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _)
            iexact Hg
          isplitl [Ho]; · iexact Ho
          isplitl [H0]; · iexact H0
          isplitl [H1]; · iexists _; iexact H1
          iexists _; iexact H2
        · exfalso; have hN : t.val < 12 := lt_of_lt_of_eq t.isLt (show cfg0.N = 12 from N_0); omega
  · by_cases h1 : 1 ≤ t.val
    · by_cases h2 : t.val % 12 = 11
      · rw [show (dat0 V c).leavesExact 0 t = owns (c : Thread nD τ) (ms0_0 t) fullShare ((dat0 V c).after 0 t) from by
      unfold Dat.leavesExact; rw [liveAt0_0 t], after0_0]
        rw [show (dat0 V c).leavesExact 1 t = owns (c : Thread nD τ) (ms0_1 t) fullShare ((dat0 V c).after 1 t) from by
      unfold Dat.leavesExact; rw [liveAt0_1_C t (fun h => h0 ((hcond0_0 t).mp h)) ((hcond0_1 t).mpr h1) ((hcond0_2 t).mpr h2)], after0_1]
        rw [show (dat0 V c).leavesExact 2 t = owns (c : Thread nD τ) (ms0_2 t) fullShare ((dat0 V c).after 2 t) from by
      unfold Dat.leavesExact; rw [liveAt0_2_C t (fun h => h0 ((hcond0_0 t).mp h)) ((hcond0_1 t).mpr h1) ((hcond0_2 t).mpr h2)], after0_2]
        by_cases hz : t.val = 0
        · exfalso; have hN : t.val < 12 := lt_of_lt_of_eq t.isLt (show cfg0.N = 12 from N_0); omega
        · rw [PhiS_castSucc V c t, PhiS_pos V c _ _ hz]
          rw [outsAt0_C V c t h0 h1 h2]
          unfold out0_C_1 out0_C_2 sout0_C_0; (try dsimp only)
          iintro ⟨⟨HS0, Hg⟩, Ho, ⟨%d0, H0⟩, ⟨%d1, H1⟩, ⟨%d2, H2⟩⟩
          iapply ((kernelRun0_C c (grid0.coords t) _ _ _ _ _ _ _ _ (fun h => h0 ((hcond0_0 t).mp h)) ((hcond0_1 t).mpr h1) ((hcond0_2 t).mpr h2) (iblk0 V c 0 t) _).2.2.2 Set.univ _)
          isplitl [H0]; · iexact H0
          isplitl [H1]; · iexists _; iexact H1
          isplitl [H2]; · iexists _; iexact H2
          isplitl [HS0]; · iexact HS0
          iintro ⟨H0, ⟨%e1, H1⟩, ⟨%e2, H2⟩, ⟨%es0, HS0⟩⟩
          isplitl [HS0 Hg]
          · isplitl [HS0]
            · unfold owns; iexists _; isplitr
              swap; · iexact HS0
              ipureintro; exact View.read_writes_of_cover _ _ _ _ _ (scover0_C_0 c _ _ _ _ _ _ _ _ _ _ _ _ _ _)
            iexact Hg
          isplitl [Ho]; · iexact Ho
          isplitl [H0]; · iexact H0
          isplitl [H1]
          · unfold owns; iexists _; isplitr
            swap; · iexact H1
            ipureintro; exact View.read_writes_of_cover _ _ _ _ _ (cover0_C_1 c _ _ _ _ _ _ _ _ _ _ _ _ _ _)
          unfold owns; iexists _; isplitr
          swap; · iexact H2
          ipureintro; exact View.read_writes_of_cover _ _ _ _ _ (cover0_C_2 c _ _ _ _ _ _ _ _ _ _ _ _ _ _)
      · rw [show (dat0 V c).leavesExact 0 t = owns (c : Thread nD τ) (ms0_0 t) fullShare ((dat0 V c).after 0 t) from by
      unfold Dat.leavesExact; rw [liveAt0_0 t], after0_0]
        rw [Dat.leavesExact_idle (dat0 V c) 1 t (idleAt0_1_B t (fun h => h0 ((hcond0_0 t).mp h)) ((hcond0_1 t).mpr h1) (fun h => h2 ((hcond0_2 t).mp h))) (noFlush0_1_B t (fun h => h0 ((hcond0_0 t).mp h)) ((hcond0_1 t).mpr h1) (fun h => h2 ((hcond0_2 t).mp h)))]
        rw [Dat.leavesExact_idle (dat0 V c) 2 t (idleAt0_2_B t (fun h => h0 ((hcond0_0 t).mp h)) ((hcond0_1 t).mpr h1) (fun h => h2 ((hcond0_2 t).mp h))) (noFlush0_2_B t (fun h => h0 ((hcond0_0 t).mp h)) ((hcond0_1 t).mpr h1) (fun h => h2 ((hcond0_2 t).mp h)))]
        by_cases hz : t.val = 0
        · exfalso; have hN : t.val < 12 := lt_of_lt_of_eq t.isLt (show cfg0.N = 12 from N_0); omega
        · rw [PhiS_castSucc V c t, PhiS_pos V c _ _ hz]
          rw [outsAt0_B V c t h0 h1 h2]
          unfold sout0_B_0; (try dsimp only)
          iintro ⟨⟨HS0, Hg⟩, Ho, ⟨%d0, H0⟩, ⟨%d1, H1⟩, ⟨%d2, H2⟩⟩
          iapply ((kernelRun0_B c (grid0.coords t) _ _ _ _ _ _ _ _ (fun h => h0 ((hcond0_0 t).mp h)) ((hcond0_1 t).mpr h1) (fun h => h2 ((hcond0_2 t).mp h)) (iblk0 V c 0 t) _).2.2.2 _ _ Set.univ _)
          isplitl [H0]; · iexact H0
          isplitl [H1]; · iexact H1
          isplitl [H2]; · iexact H2
          isplitl [HS0]; · iexact HS0
          iintro ⟨H0, H1, H2, ⟨%es0, HS0⟩⟩
          isplitl [HS0 Hg]
          · isplitl [HS0]
            · unfold owns; iexists _; isplitr
              swap; · iexact HS0
              ipureintro; exact View.read_writes_of_cover _ _ _ _ _ (scover0_B_0 c _ _ _ _ _ _ _ _ _ _ _ _ _ _)
            iexact Hg
          isplitl [Ho]; · iexact Ho
          isplitl [H0]; · iexact H0
          isplitl [H1]; · iexists _; iexact H1
          iexists _; iexact H2
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region (`ΦA`) is the invariant before the first point. -/
theorem hin (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨HS0, Hg⟩
  isplitl [HS0]
  · iexists _; iexact HS0
  iexact Hg

/-- The same after the last point. -/
theorem hout (c : Dev nD) : (dat0 V c).Φ (Fin.last cfg0.N) ⊢ Pipeline.ΦA spec0 c :=
  Phi_out V c _ (by rw [Fin.val_last]; have : cfg0.N = 12 := N_0; omega)

end Cert.KernelIdeal.Run

end
-- ==== Proof.KernelIdeal.Region1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

/-! Region 1 (the products): blocks, the body run, the pipeline's proof data and its body obligation, at any entry contents `V`. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # REGION 1 of @main: custom_call 1, `cc1_wgrad` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 6, through which its contents are stated (`View.read_writes_of_cover`: the
    choice does not matter). -/
abbrev VO1_6 : View sig .tc .vmem S2048x512 .f32 := (Memref.whole cc1_stg6_0 : Memref sig .tc .vmem S2048x512 .f32).view
/-- One staging buffer of output window 7, through which its contents are stated (`View.read_writes_of_cover`: the
    choice does not matter). -/
abbrev VO1_7 : View sig .tc .vmem S6144x512 .fp8e5m2 := (Memref.whole cc1_stg7_0 : Memref sig .tc .vmem S6144x512 .fp8e5m2).view
/-- Each window's current staging memref at point `t`, spelled as the pipeline passes it (`bodyAt1`), and its wholeness. -/
abbrev ms1_0 (t : Fin cfg1.N) : Memref sig .tc .smem S1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S6144x2048 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S6144x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2048x512 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S6144x512 .fp8e5m2 := win1_7.stage (cfg1.slots t 7)
abbrev hs1_7 (t : Fin cfg1.N) : (ms1_7 t).IsWhole := hstage1_7 ((cfg1.slots t 7).cast nbuf1_7)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .smem S1 .f32) (harg1 : arg1.IsWhole) (arg2 : Memref sig .tc .vmem S8x128 .f32) (harg2 : arg2.IsWhole) (arg3 : Memref sig .tc .vmem S8x128 .f32) (harg3 : arg3.IsWhole) (arg4 : Memref sig .tc .vmem S6144x2048 .fp8e4m3) (harg4 : arg4.IsWhole) (arg5 : Memref sig .tc .vmem S6144x512 .bf16) (harg5 : arg5.IsWhole) (arg6 : Memref sig .tc .vmem S2048x512 .f32) (harg6 : arg6.IsWhole) (arg7 : Memref sig .tc .vmem S2048x512 .f32) (harg7 : arg7.IsWhole) (arg8 : Memref sig .tc .vmem S6144x512 .fp8e5m2) (harg8 : arg8.IsWhole)
    (x0 : Vec F S1 .f32) (x1 : Vec F S8x128 .f32) (x2 : Vec F S8x128 .f32) (x3 : Vec F S6144x2048 .fp8e4m3) (x4 : Vec F S6144x512 .bf16) (x5 : Vec F S2048x512 .f32) :
    Σ' (L6 : List (View.Piece (Elt F) S2048x512 .f32)), { L7 : List (View.Piece (Elt F) S6144x512 .fp8e5m2) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc1_wgrad i arg1 harg1 arg2 harg2 arg3 harg3 arg4 harg4 arg5 harg5 arg6 harg6 arg7 harg7 arg8 harg8) K } := by
  refine ⟨?_, ?_, fun E K => ?run⟩
  case run =>
    simp only [cc1_wgrad_eq_skeleton]; unfold cc1_wgrad_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

/-- The run's pieces for output 6 tile its block (4 stores of `S512x512`, checked by the kernel's evaluation: Lib/Ring.lean `Piece.tiledL`, linear in the pieces, through a loop's `@[irreducible]` trip theorem too), so they cover it. -/
theorem cover1_A_6 (c : Dev nD) (i : grid1.Coords) (arg1 : Memref sig .tc .smem S1 .f32) (harg1 : arg1.IsWhole) (arg2 : Memref sig .tc .vmem S8x128 .f32) (harg2 : arg2.IsWhole) (arg3 : Memref sig .tc .vmem S8x128 .f32) (harg3 : arg3.IsWhole) (arg4 : Memref sig .tc .vmem S6144x2048 .fp8e4m3) (harg4 : arg4.IsWhole) (arg5 : Memref sig .tc .vmem S6144x512 .bf16) (harg5 : arg5.IsWhole) (arg6 : Memref sig .tc .vmem S2048x512 .f32) (harg6 : arg6.IsWhole) (arg7 : Memref sig .tc .vmem S2048x512 .f32) (harg7 : arg7.IsWhole) (arg8 : Memref sig .tc .vmem S6144x512 .fp8e5m2) (harg8 : arg8.IsWhole)
    (x0 : Vec F S1 .f32) (x1 : Vec F S8x128 .f32) (x2 : Vec F S8x128 .f32) (x3 : Vec F S6144x2048 .fp8e4m3) (x4 : Vec F S6144x512 .bf16) (x5 : Vec F S2048x512 .f32) (y : S2048x512.Idx) :
    ∃ pc ∈ (kernelRun1_A c i arg1 harg1 arg2 harg2 arg3 harg3 arg4 harg4 arg5 harg5 arg6 harg6 arg7 harg7 arg8 harg8 x0 x1 x2 x3 x4 x5).1, y ∈ pc.1.set :=
  View.cover_of_tiledL (kernelRun1_A c i arg1 harg1 arg2 harg2 arg3 harg3 arg4 harg4 arg5 harg5 arg6 harg6 arg7 harg7 arg8 harg8 x0 x1 x2 x3 x4 x5).1 S512x512.size (by sl_kernel_rfl) y

/-- What the run leaves in output 6's staging buffer: its pieces read back over junk. -/
def out1_A_6 (c : Dev nD) (i : grid1.Coords) (arg1 : Memref sig .tc .smem S1 .f32) (harg1 : arg1.IsWhole) (arg2 : Memref sig .tc .vmem S8x128 .f32) (harg2 : arg2.IsWhole) (arg3 : Memref sig .tc .vmem S8x128 .f32) (harg3 : arg3.IsWhole) (arg4 : Memref sig .tc .vmem S6144x2048 .fp8e4m3) (harg4 : arg4.IsWhole) (arg5 : Memref sig .tc .vmem S6144x512 .bf16) (harg5 : arg5.IsWhole) (arg6 : Memref sig .tc .vmem S2048x512 .f32) (harg6 : arg6.IsWhole) (arg7 : Memref sig .tc .vmem S2048x512 .f32) (harg7 : arg7.IsWhole) (arg8 : Memref sig .tc .vmem S6144x512 .fp8e5m2) (harg8 : arg8.IsWhole)
    (x0 : Vec F S1 .f32) (x1 : Vec F S8x128 .f32) (x2 : Vec F S8x128 .f32) (x3 : Vec F S6144x2048 .fp8e4m3) (x4 : Vec F S6144x512 .bf16) (x5 : Vec F S2048x512 .f32) : Vec F S2048x512 .f32 :=
  VO1_6.read (Elt F) (VO1_6.writes (Elt F) VO1_6.junk (kernelRun1_A c i arg1 harg1 arg2 harg2 arg3 harg3 arg4 harg4 arg5 harg5 arg6 harg6 arg7 harg7 arg8 harg8 x0 x1 x2 x3 x4 x5).1)

/-- The run's pieces for output 7 tile its block (1 store of `S6144x512`, checked by the kernel's evaluation: Lib/Ring.lean `Piece.tiledL`, linear in the pieces, through a loop's `@[irreducible]` trip theorem too), so they cover it. -/
theorem cover1_A_7 (c : Dev nD) (i : grid1.Coords) (arg1 : Memref sig .tc .smem S1 .f32) (harg1 : arg1.IsWhole) (arg2 : Memref sig .tc .vmem S8x128 .f32) (harg2 : arg2.IsWhole) (arg3 : Memref sig .tc .vmem S8x128 .f32) (harg3 : arg3.IsWhole) (arg4 : Memref sig .tc .vmem S6144x2048 .fp8e4m3) (harg4 : arg4.IsWhole) (arg5 : Memref sig .tc .vmem S6144x512 .bf16) (harg5 : arg5.IsWhole) (arg6 : Memref sig .tc .vmem S2048x512 .f32) (harg6 : arg6.IsWhole) (arg7 : Memref sig .tc .vmem S2048x512 .f32) (harg7 : arg7.IsWhole) (arg8 : Memref sig .tc .vmem S6144x512 .fp8e5m2) (harg8 : arg8.IsWhole)
    (x0 : Vec F S1 .f32) (x1 : Vec F S8x128 .f32) (x2 : Vec F S8x128 .f32) (x3 : Vec F S6144x2048 .fp8e4m3) (x4 : Vec F S6144x512 .bf16) (x5 : Vec F S2048x512 .f32) (y : S6144x512.Idx) :
    ∃ pc ∈ (kernelRun1_A c i arg1 harg1 arg2 harg2 arg3 harg3 arg4 harg4 arg5 harg5 arg6 harg6 arg7 harg7 arg8 harg8 x0 x1 x2 x3 x4 x5).2.1, y ∈ pc.1.set :=
  View.cover_of_tiledL (kernelRun1_A c i arg1 harg1 arg2 harg2 arg3 harg3 arg4 harg4 arg5 harg5 arg6 harg6 arg7 harg7 arg8 harg8 x0 x1 x2 x3 x4 x5).2.1 S6144x512.size (by sl_kernel_rfl) y

/-- What the run leaves in output 7's staging buffer: its pieces read back over junk. -/
def out1_A_7 (c : Dev nD) (i : grid1.Coords) (arg1 : Memref sig .tc .smem S1 .f32) (harg1 : arg1.IsWhole) (arg2 : Memref sig .tc .vmem S8x128 .f32) (harg2 : arg2.IsWhole) (arg3 : Memref sig .tc .vmem S8x128 .f32) (harg3 : arg3.IsWhole) (arg4 : Memref sig .tc .vmem S6144x2048 .fp8e4m3) (harg4 : arg4.IsWhole) (arg5 : Memref sig .tc .vmem S6144x512 .bf16) (harg5 : arg5.IsWhole) (arg6 : Memref sig .tc .vmem S2048x512 .f32) (harg6 : arg6.IsWhole) (arg7 : Memref sig .tc .vmem S2048x512 .f32) (harg7 : arg7.IsWhole) (arg8 : Memref sig .tc .vmem S6144x512 .fp8e5m2) (harg8 : arg8.IsWhole)
    (x0 : Vec F S1 .f32) (x1 : Vec F S8x128 .f32) (x2 : Vec F S8x128 .f32) (x3 : Vec F S6144x2048 .fp8e4m3) (x4 : Vec F S6144x512 .bf16) (x5 : Vec F S2048x512 .f32) : Vec F S6144x512 .fp8e5m2 :=
  VO1_7.read (Elt F) (VO1_7.writes (Elt F) VO1_7.junk (kernelRun1_A c i arg1 harg1 arg2 harg2 arg3 harg3 arg4 harg4 arg5 harg5 arg6 harg6 arg7 harg7 arg8 harg8 x0 x1 x2 x3 x4 x5).2.1)

/-! ## What the outputs hold after each point -/

/-- What the outputs' staging buffers hold after the body at point `t` (as a tuple, in window order): the run's contents at
    the point's memrefs and input blocks. -/
def outsAt1 (c : Dev nD) (t : Fin cfg1.N) : Vec F S2048x512 .f32 × Vec F S6144x512 .fp8e5m2 :=
  (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t) (iblk1 V c 4 t) (iblk1 V c 5 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t) (iblk1 V c 4 t) (iblk1 V c 5 t))

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t).1
    | ⟨7, _⟩ => (outsAt1 V c t).2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t).1 := by dsimp only [dat1]
theorem after1_7 (c : Dev nD) (t : Fin cfg1.N) : (dat1 V c).after 7 t = (outsAt1 V c t).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

set_option maxHeartbeats 800000 in
/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  unfold outsAt1
  unfold out1_A_6 out1_A_7; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun1_A c (grid1.coords t) _ _ _ _ _ _ _ _ _ _ _ _ _ _ _ _ (iblk1 V c 0 t) (iblk1 V c 1 t) (iblk1 V c 2 t) (iblk1 V c 3 t) (iblk1 V c 4 t) (iblk1 V c 5 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover1_A_6 c _ _ _ _ _ _ _ _ _ _ _ _ _ _ _ _ _ _ _ _ _ _ _)
  unfold owns; iexists _; isplitr
  swap; · iexact H7
  ipureintro; exact View.read_writes_of_cover _ _ _ _ _ (cover1_A_7 c _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Run

end
-- ==== Proof.KernelIdeal.RunMain.lean ====
module

public import proofs.«01_k».proof.Proof.KernelIdeal.Region0
public import proofs.«01_k».proof.Proof.KernelIdeal.Region1

/-! The whole launch: host stretches and the two regions in order, every buffer followed from boundary to boundary. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v3]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v5, main_v6, main_v7]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin (V1 m ρ) c); unfold Pipeline.ΦA
    iintro ⟨Hp, -, Hr⟩
    isplitl [Hr]; · iexact Hr
    iexact Hp
  hout c := by
    rw [Pipeline.ownSems0_none]
    refine BIBase.Entails.trans (hout (V1 m ρ) c) ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run with every buffer read: every weakly fair execution of @main ends, every buffer of the TensorCores holds what
    the last boundary's contents say, and every semaphore counter of the machine is zero. -/
theorem run_bufs : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame: the same run, read at the argument arrays, which end as launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c)⟩, h.2⟩)
    (run_bufs m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h => h.1) (frame m ρ)

end Cert.KernelIdeal.Run

end
-- ==== Proof.KernelIdeal.Blocks0.lean ====
module

public import proofs.«01_k».proof.Proof.KernelIdeal.Region0
public import Idealize.ShloMosaic.Lib.Pipeline.Value

/-! Region 0: what each point leaves, in the body's own functions of the blocks: the running maximum in the scratch, the two tiles at the last point. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz : (![0, 0] : Fin 2 → Nat) = fun _ => 0 := funext fun a => by fin_cases a <;> rfl

/-- The first point stores the block's group maxima. -/
theorem sout_A (c : Dev nD) (i : grid0.Coords) (a1 : Memref sig .tc .vmem S512x8192 .bf16) (h1 : a1.IsWhole) (a2 : Memref sig .tc .vmem S8x128 .f32) (h2 : a2.IsWhole) (a3 : Memref sig .tc .vmem S8x128 .f32) (h3 : a3.IsWhole) (a4 : Memref sig .tc .vmem S16x8192 .bf16) (h4 : a4.IsWhole) (hc0 : cond0_0 i) (hc1 : ¬cond0_1 i) (hc2 : ¬cond0_2 i)
    (x : Vec F S512x8192 .bf16) : sout0_A_0 c i a1 h1 a2 h2 a3 h3 a4 h4 hc0 hc1 hc2 x = k0_pay2 x := by
  unfold sout0_A_0
  rw [View.read_writes_eq_canon _ _ _ (scover0_A_0 c i a1 h1 a2 h2 a3 h3 a4 h4 hc0 hc1 hc2 x)]
  unfold kernelRun0_A
  dsimp only
  rw [View.canon_unit_zero hz]
  simp only [View.readAt_eq_ld, h1.read_unread, View.ld_unit_zero (S := S512x8192) hz]

/-- A middle point takes the running maximum with the block's. -/
theorem sout_B (c : Dev nD) (i : grid0.Coords) (a1 : Memref sig .tc .vmem S512x8192 .bf16) (h1 : a1.IsWhole) (a2 : Memref sig .tc .vmem S8x128 .f32) (h2 : a2.IsWhole) (a3 : Memref sig .tc .vmem S8x128 .f32) (h3 : a3.IsWhole) (a4 : Memref sig .tc .vmem S16x8192 .bf16) (h4 : a4.IsWhole) (hc0 : ¬cond0_0 i) (hc1 : cond0_1 i) (hc2 : ¬cond0_2 i)
    (x : Vec F S512x8192 .bf16) (s : Vec F S16x8192 .bf16) : sout0_B_0 c i a1 h1 a2 h2 a3 h3 a4 h4 hc0 hc1 hc2 x s = k0_pay3 x s := by
  unfold sout0_B_0
  rw [View.read_writes_eq_canon _ _ _ (scover0_B_0 c i a1 h1 a2 h2 a3 h3 a4 h4 hc0 hc1 hc2 x s)]
  unfold kernelRun0_B
  dsimp only
  rw [View.canon_unit_zero hz]
  simp only [View.readAt_eq_ld, h1.read_unread, h4.read_unread, View.ld_unit_zero (S := S512x8192) hz, View.ld_unit_zero (S := S16x8192) hz]

/-- The last point does too, -/
theorem sout_C (c : Dev nD) (i : grid0.Coords) (a1 : Memref sig .tc .vmem S512x8192 .bf16) (h1 : a1.IsWhole) (a2 : Memref sig .tc .vmem S8x128 .f32) (h2 : a2.IsWhole) (a3 : Memref sig .tc .vmem S8x128 .f32) (h3 : a3.IsWhole) (a4 : Memref sig .tc .vmem S16x8192 .bf16) (h4 : a4.IsWhole) (hc0 : ¬cond0_0 i) (hc1 : cond0_1 i) (hc2 : cond0_2 i)
    (x : Vec F S512x8192 .bf16) (s : Vec F S16x8192 .bf16) : sout0_C_0 c i a1 h1 a2 h2 a3 h3 a4 h4 hc0 hc1 hc2 x s = k0_pay3 x s := by
  unfold sout0_C_0
  rw [View.read_writes_eq_canon _ _ _ (scover0_C_0 c i a1 h1 a2 h2 a3 h3 a4 h4 hc0 hc1 hc2 x s)]
  unfold kernelRun0_C
  dsimp only
  sl_unfold_words
  rw [View.canon_unit_zero hz]
  simp only [View.readAt_eq_ld, h1.read_unread, h4.read_unread, View.ld_unit_zero (S := S512x8192) hz, View.ld_unit_zero (S := S16x8192) hz]

/-- and writes the scale tile from the whole maximum -/
theorem out_C_1 (c : Dev nD) (i : grid0.Coords) (a1 : Memref sig .tc .vmem S512x8192 .bf16) (h1 : a1.IsWhole) (a2 : Memref sig .tc .vmem S8x128 .f32) (h2 : a2.IsWhole) (a3 : Memref sig .tc .vmem S8x128 .f32) (h3 : a3.IsWhole) (a4 : Memref sig .tc .vmem S16x8192 .bf16) (h4 : a4.IsWhole) (hc0 : ¬cond0_0 i) (hc1 : cond0_1 i) (hc2 : cond0_2 i)
    (x : Vec F S512x8192 .bf16) (s : Vec F S16x8192 .bf16) : out0_C_1 c i a1 h1 a2 h2 a3 h3 a4 h4 hc0 hc1 hc2 x s
      = k0_pay9 (k0_pay5 (k0_pay3 x s)) (k0_pay6 (k0_pay3 x s)) (k0_pay7 (k0_pay3 x s)) := by
  unfold out0_C_1
  rw [View.read_writes_eq_canon _ _ _ (cover0_C_1 c i a1 h1 a2 h2 a3 h3 a4 h4 hc0 hc1 hc2 x s)]
  unfold kernelRun0_C
  dsimp only
  sl_unfold_words
  rw [View.canon_unit_zero hz]
  simp only [View.readCov_unit_zero (S := S16x8192) _ hz, View.readAt_eq_ld, h1.read_unread, h4.read_unread, View.ld_unit_zero (S := S512x8192) hz, View.ld_unit_zero (S := S16x8192) hz]

/-- and the inverse tile. -/
theorem out_C_2 (c : Dev nD) (i : grid0.Coords) (a1 : Memref sig .tc .vmem S512x8192 .bf16) (h1 : a1.IsWhole) (a2 : Memref sig .tc .vmem S8x128 .f32) (h2 : a2.IsWhole) (a3 : Memref sig .tc .vmem S8x128 .f32) (h3 : a3.IsWhole) (a4 : Memref sig .tc .vmem S16x8192 .bf16) (h4 : a4.IsWhole) (hc0 : ¬cond0_0 i) (hc1 : cond0_1 i) (hc2 : cond0_2 i)
    (x : Vec F S512x8192 .bf16) (s : Vec F S16x8192 .bf16) : out0_C_2 c i a1 h1 a2 h2 a3 h3 a4 h4 hc0 hc1 hc2 x s
      = k0_pay4 (k0_pay10 (k0_pay5 (k0_pay3 x s)) (k0_pay6 (k0_pay3 x s)) (k0_pay7 (k0_pay3 x s))) k0_pay11 := by
  unfold out0_C_2
  rw [View.read_writes_eq_canon _ _ _ (cover0_C_2 c i a1 h1 a2 h2 a3 h3 a4 h4 hc0 hc1 hc2 x s)]
  unfold kernelRun0_C
  dsimp only
  sl_unfold_words
  rw [View.canon_unit_zero hz]
  simp only [View.readCov_unit_zero (S := S16x8192) _ hz, View.readAt_eq_ld, h1.read_unread, h4.read_unread, View.ld_unit_zero (S := S512x8192) hz, View.ld_unit_zero (S := S16x8192) hz]

/-- The running maximum after point `n`: the block maxima taken in order. -/
def runMax (c : Dev nD) : (n : ℕ) → n < cfg0.N → Vec F S16x8192 .bf16
  | 0, h => k0_pay2 (iblk0 V c 0 ⟨0, h⟩)
  | n + 1, h => k0_pay3 (iblk0 V c 0 ⟨n + 1, h⟩) (runMax c n (Nat.lt_of_succ_lt h))

/-- The carried scratch holds it. -/
theorem scratch_eq (c : Dev nD) : ∀ (n : ℕ) (h : n < cfg0.N), (outsAt0 V c n h).2.2 = runMax V c n h
  | 0, h => by
    have k := congrArg (fun p => p.2.2) (outsAt0_A V c ⟨0, h⟩ rfl (by dsimp only; omega) (by dsimp only; omega))
    dsimp only at k
    rw [sout_A] at k
    exact k
  | n + 1, h => by
    have hN : n + 1 < 12 := lt_of_lt_of_eq h (show cfg0.N = 12 from N_0)
    have e := scratch_eq c n (Nat.lt_of_succ_lt h)
    by_cases h2 : (⟨n + 1, h⟩ : Fin cfg0.N).val % 12 = 11
    · rw [outsAt0_C V c ⟨n + 1, h⟩ (by dsimp only; omega) (by dsimp only; omega) h2]
      dsimp only
      rw [sout_C]
      show k0_pay3 _ (outsAt0 V c n _).2.2 = k0_pay3 _ _
      rw [e]
    · rw [outsAt0_B V c ⟨n + 1, h⟩ (by dsimp only; omega) (by dsimp only; omega) h2]
      dsimp only
      rw [sout_B]
      show k0_pay3 _ (outsAt0 V c n _).2.2 = k0_pay3 _ _
      rw [e]

theorem h11 : 11 < cfg0.N := by rw [show cfg0.N = 12 from N_0]; decide

/-- The whole maximum, after the last point. -/
abbrev total (c : Dev nD) : Vec F S16x8192 .bf16 := runMax V c 11 h11

/-- What the last point leaves in the scale tile, -/
def scaleTile (s : Vec F S16x8192 .bf16) : FVec F S8x128 .f32 := k0_pay9 (k0_pay5 s) (k0_pay6 s) (k0_pay7 s)
/-- and in the inverse tile, from the whole maximum. -/
def invTile (s : Vec F S16x8192 .bf16) : FVec F S8x128 .f32 := k0_pay4 (k0_pay10 (k0_pay5 s) (k0_pay6 s) (k0_pay7 s)) k0_pay11

theorem last_C (c : Dev nD) : (outsAt0 V c 11 h11).1 = scaleTile (total V c) ∧ (outsAt0 V c 11 h11).2.1 = invTile (total V c) := by
  have e := scratch_eq V c 10 (Nat.lt_of_succ_lt h11)
  have hr : total V c = k0_pay3 (iblk0 V c 0 ⟨11, h11⟩) (runMax V c 10 (Nat.lt_of_succ_lt h11)) := rfl
  have k := outsAt0_C V c ⟨11, h11⟩ (by dsimp only; omega) (by dsimp only; omega) rfl
  have k1 := congrArg (fun p => p.1) k
  have k2 := congrArg (fun p => p.2.1) k
  dsimp only at k1 k2
  rw [out_C_1] at k1
  rw [out_C_2] at k2
  rw [hr, ← e]
  exact ⟨k1, k2⟩

end Cert.KernelIdeal.Run

end
-- ==== Proof.KernelIdeal.Blocks1.lean ====
module

public import proofs.«01_k».proof.Proof.KernelIdeal.Region1
public import proofs.«01_k».proof.Proof.KernelIdeal.Blocks0
public import Idealize.ShloMosaic.Lib.Pipeline.Value

/-! Region 1: what each point leaves, in the body's own functions of the blocks. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The corner of a tile: its element (0, 0) as a one-by-one block. -/
abbrev corner (x : Vec F S8x128 .f32) : Vec F S1x1 .f32 := View.ld x (Rect.unit (s := S8x128) ![0, 0] S1x1.size inb_S8x128_S1x1_0_0)

/-- The codes of one slab: every element by the inverse, clipped. -/
def codeBlk (x2 : Vec F S8x128 .f32) (x4 : Vec F S6144x512 .bf16) : FVec F S6144x512 .fp8e5m2 := k1_pay4 (corner x2) x4

theorem out_7 (c : Dev nD) (i : grid1.Coords) (a1 : Memref sig .tc .smem S1 .f32) (h1 : a1.IsWhole) (a2 : Memref sig .tc .vmem S8x128 .f32) (h2 : a2.IsWhole) (a3 : Memref sig .tc .vmem S8x128 .f32) (h3 : a3.IsWhole) (a4 : Memref sig .tc .vmem S6144x2048 .fp8e4m3) (h4 : a4.IsWhole) (a5 : Memref sig .tc .vmem S6144x512 .bf16) (h5 : a5.IsWhole) (a6 : Memref sig .tc .vmem S2048x512 .f32) (h6 : a6.IsWhole) (a7 : Memref sig .tc .vmem S2048x512 .f32) (h7 : a7.IsWhole) (a8 : Memref sig .tc .vmem S6144x512 .fp8e5m2) (h8 : a8.IsWhole)
    (x0 : Vec F S1 .f32) (x1 : Vec F S8x128 .f32) (x2 : Vec F S8x128 .f32) (x3 : Vec F S6144x2048 .fp8e4m3) (x4 : Vec F S6144x512 .bf16) (x5 : Vec F S2048x512 .f32) :
    out1_A_7 c i a1 h1 a2 h2 a3 h3 a4 h4 a5 h5 a6 h6 a7 h7 a8 h8 x0 x1 x2 x3 x4 x5 = codeBlk x2 x4 := by
  unfold out1_A_7
  rw [View.read_writes_eq_canon _ _ _ (cover1_A_7 c i a1 h1 a2 h2 a3 h3 a4 h4 a5 h5 a6 h6 a7 h7 a8 h8 x0 x1 x2 x3 x4 x5)]
  unfold kernelRun1_A
  dsimp only
  sl_unfold_words
  rw [View.canon_unit_zero hz]
  simp only [View.readAt_eq_ld, h3.read_unread, h5.read_unread, View.ld_unit_zero (S := S6144x512) hz]
  rfl

/-- A one-element array has one index. -/
theorem one_idx (i j : S1.Idx) : i = j := by
  funext a
  refine Fin.ext ?_
  have h1 : (i a).val < 1 := by
    have := (i a).isLt
    fin_cases a
    exact this
  have h2 : (j a).val < 1 := by
    have := (j a).isLt
    fin_cases a
    exact this
  omega

/-- The one index. -/
def one0 : S1.Idx := fun a => ⟨0, by fin_cases a; decide⟩

theorem ld_one (x0 : Vec F S1 .f32) (ho : ∀ a, (![0] : Fin 1 → ℕ) a + S1.size a ≤ S1.size a) (h) :
    View.ld x0 (Rect.unit (s := S1) ![0] S1.size ho) (Shape.Idx.first h) = x0 one0 :=
  congrArg x0 (one_idx _ _)

/-- One row chunk of the products, from the block of the weights' rows. -/
def chunk (x0 : Vec F S1 .f32) (x1 x2 : Vec F S8x128 .f32) (x4 : Vec F S6144x512 .bf16)
    (w : Vec F S6144x512 .fp8e4m3) (a : Vec F S512x512 .f32) : FVec F S512x512 .f32 :=
  k1_pay2 (codeBlk x2 x4) (k1_pay5 (x0 one0) (corner x1)) w a

theorem out_6 (c : Dev nD) (i : grid1.Coords) (a1 : Memref sig .tc .smem S1 .f32) (h1 : a1.IsWhole) (a2 : Memref sig .tc .vmem S8x128 .f32) (h2 : a2.IsWhole) (a3 : Memref sig .tc .vmem S8x128 .f32) (h3 : a3.IsWhole) (a4 : Memref sig .tc .vmem S6144x2048 .fp8e4m3) (h4 : a4.IsWhole) (a5 : Memref sig .tc .vmem S6144x512 .bf16) (h5 : a5.IsWhole) (a6 : Memref sig .tc .vmem S2048x512 .f32) (h6 : a6.IsWhole) (a7 : Memref sig .tc .vmem S2048x512 .f32) (h7 : a7.IsWhole) (a8 : Memref sig .tc .vmem S6144x512 .fp8e5m2) (h8 : a8.IsWhole)
    (x0 : Vec F S1 .f32) (x1 : Vec F S8x128 .f32) (x2 : Vec F S8x128 .f32) (x3 : Vec F S6144x2048 .fp8e4m3) (x4 : Vec F S6144x512 .bf16) (x5 : Vec F S2048x512 .f32)
    (G : S2048x512.Idx → Elt F .f32)
    (hG : ∀ (o : ℕ) (ho : ∀ a, (![o, 0] : Fin 2 → ℕ) a + S512x512.size a ≤ S2048x512.size a) (ho' : ∀ a, (![0, o] : Fin 2 → ℕ) a + S6144x512.size a ≤ S6144x2048.size a) (j : S512x512.Idx),
      chunk x0 x1 x2 x4 (View.ld x3 (Rect.unit (s := S6144x2048) ![0, o] S6144x512.size ho')) (View.ld x5 (Rect.unit (s := S2048x512) ![o, 0] S512x512.size ho)) j
        = G ((Rect.unit (s := S2048x512) ![o, 0] S512x512.size ho).emb j)) :
    out1_A_6 c i a1 h1 a2 h2 a3 h3 a4 h4 a5 h5 a6 h6 a7 h7 a8 h8 x0 x1 x2 x3 x4 x5 = G := by
  funext y
  unfold out1_A_6
  rw [View.read_writes_eq_canon _ _ _ (cover1_A_6 c i a1 h1 a2 h2 a3 h3 a4 h4 a5 h5 a6 h6 a7 h7 a8 h8 x0 x1 x2 x3 x4 x5)]
  refine View.canon_apply_of_pieces G _ (fun p hp j => ?_) y (cover1_A_6 c i a1 h1 a2 h2 a3 h3 a4 h4 a5 h5 a6 h6 a7 h7 a8 h8 x0 x1 x2 x3 x4 x5 y)
  unfold kernelRun1_A at hp
  dsimp only at hp
  simp only [List.mem_cons, List.mem_nil_iff, or_false] at hp
  rcases hp with rfl | rfl | rfl | rfl
  · refine Eq.trans ?_ (hG 1536 inb_S2048x512_S512x512_1536_0 inb_S6144x2048_S6144x512_0_1536 j)
    sl_unfold_words
    simp only [View.readAt_eq_ld, h1.read_unread, h2.read_unread, h3.read_unread, h4.read_unread, h5.read_unread, h6.read_unread, View.ld_unit_zero (S := S6144x512) hz]
    rw [ld_one]
    rfl
  · refine Eq.trans ?_ (hG 1024 inb_S2048x512_S512x512_1024_0 inb_S6144x2048_S6144x512_0_1024 j)
    sl_unfold_words
    simp only [View.readAt_eq_ld, h1.read_unread, h2.read_unread, h3.read_unread, h4.read_unread, h5.read_unread, h6.read_unread, View.ld_unit_zero (S := S6144x512) hz]
    rw [ld_one]
    rfl
  · refine Eq.trans ?_ (hG 512 inb_S2048x512_S512x512_512_0 inb_S6144x2048_S6144x512_0_512 j)
    sl_unfold_words
    simp only [View.readAt_eq_ld, h1.read_unread, h2.read_unread, h3.read_unread, h4.read_unread, h5.read_unread, h6.read_unread, View.ld_unit_zero (S := S6144x512) hz]
    rw [ld_one]
    rfl
  · refine Eq.trans ?_ (hG 0 inb_S2048x512_S512x512_0_0 inb_S6144x2048_S6144x512_0_0 j)
    sl_unfold_words
    simp only [View.readAt_eq_ld, h1.read_unread, h2.read_unread, h3.read_unread, h4.read_unread, h5.read_unread, h6.read_unread, View.ld_unit_zero (S := S6144x512) hz]
    rw [ld_one]
    rfl

end Cert.KernelIdeal.Run

end
-- ==== Proof.KernelIdeal.Windows.lean ====
module

public import proofs.«01_k».proof.Proof.KernelIdeal.Blocks1
public import Idealize.ShloMosaic.Lib.Pointwise

/-! Where the windows' blocks lie, and what an input block holds at an index. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where each window's block lies -/

theorem N0' : cfg0.N = 12 := by decide
theorem N1' : cfg1.N = 16 := by decide

theorem idx0_0 : ∀ t : Fin cfg0.N, win0_0.index t 0 = t.val ∧ win0_0.index t 1 = 0 := by decide +kernel
theorem idx0_1 : ∀ t : Fin cfg0.N, win0_1.index t 0 = 0 ∧ win0_1.index t 1 = 0 := by decide +kernel
theorem idx0_2 : ∀ t : Fin cfg0.N, win0_2.index t 0 = 0 ∧ win0_2.index t 1 = 0 := by decide +kernel
theorem idx1_0 : ∀ t : Fin cfg1.N, win1_0.index t 0 = 0 := by decide +kernel
theorem idx1_1 : ∀ t : Fin cfg1.N, win1_1.index t 0 = 0 ∧ win1_1.index t 1 = 0 := by decide +kernel
theorem idx1_2 : ∀ t : Fin cfg1.N, win1_2.index t 0 = 0 ∧ win1_2.index t 1 = 0 := by decide +kernel
theorem idx1_3 : ∀ t : Fin cfg1.N, win1_3.index t 0 = 0 ∧ win1_3.index t 1 = 0 := by decide +kernel
theorem idx1_4 : ∀ t : Fin cfg1.N, win1_4.index t 0 = 0 ∧ win1_4.index t 1 = t.val := by decide +kernel
theorem idx1_5 : ∀ t : Fin cfg1.N, win1_5.index t 0 = 0 ∧ win1_5.index t 1 = t.val := by decide +kernel
theorem idx1_6 : ∀ t : Fin cfg1.N, win1_6.index t 0 = 0 ∧ win1_6.index t 1 = t.val := by decide +kernel
theorem idx1_7 : ∀ t : Fin cfg1.N, win1_7.index t 0 = 0 ∧ win1_7.index t 1 = t.val := by decide +kernel

/-! ## What an input block holds at an index -/

theorem blk0_0 (c : Dev nD) (t : Fin cfg0.N) (r : Fin 512) (l : Fin 8192) (h : 512 * t.val + r.val < 6144) :
    (iblk0 V c 0 t : Vec F S512x8192 .bf16) (ix2 r l) = (V c main_v1 : Vec F S6144x8192 .bf16) (ix2 ⟨512 * t.val + r.val, h⟩ l) := by
  unfold iblk0
  rw [View.read_apply]
  refine congrArg (V c main_v1) ?_
  funext a
  refine Fin.ext ?_
  match a with
  | ⟨0, _⟩ => show win0_0.index t 0 * 512 + 1 * r.val = 512 * t.val + r.val; rw [(idx0_0 t).1]; omega
  | ⟨1, _⟩ => show win0_0.index t 1 * 8192 + 1 * l.val = l.val; rw [(idx0_0 t).2]; omega

theorem blk1_0 (c : Dev nD) (t : Fin cfg1.N) : (iblk1 V c 0 t : Vec F S1 .f32) one0 = (V c main_v3 : Vec F S1 .f32) one0 := by
  unfold iblk1
  rw [View.read_apply]
  exact congrArg (V c main_v3) (one_idx _ _)

theorem blk1_1 (c : Dev nD) (t : Fin cfg1.N) (r : Fin 8) (l : Fin 128) :
    (iblk1 V c 1 t : Vec F S8x128 .f32) (ix2 r l) = (V c main_v2_0 : Vec F S8x128 .f32) (ix2 r l) := by
  unfold iblk1
  rw [View.read_apply]
  refine congrArg (V c main_v2_0) ?_
  funext a
  refine Fin.ext ?_
  match a with
  | ⟨0, _⟩ => show win1_1.index t 0 * 8 + 1 * r.val = r.val; rw [(idx1_1 t).1]; omega
  | ⟨1, _⟩ => show win1_1.index t 1 * 128 + 1 * l.val = l.val; rw [(idx1_1 t).2]; omega

theorem blk1_2 (c : Dev nD) (t : Fin cfg1.N) (r : Fin 8) (l : Fin 128) :
    (iblk1 V c 2 t : Vec F S8x128 .f32) (ix2 r l) = (V c main_v2_1 : Vec F S8x128 .f32) (ix2 r l) := by
  unfold iblk1
  rw [View.read_apply]
  refine congrArg (V c main_v2_1) ?_
  funext a
  refine Fin.ext ?_
  match a with
  | ⟨0, _⟩ => show win1_2.index t 0 * 8 + 1 * r.val = r.val; rw [(idx1_2 t).1]; omega
  | ⟨1, _⟩ => show win1_2.index t 1 * 128 + 1 * l.val = l.val; rw [(idx1_2 t).2]; omega

theorem blk1_3 (c : Dev nD) (t : Fin cfg1.N) (r : Fin 6144) (l : Fin 2048) :
    (iblk1 V c 3 t : Vec F S6144x2048 .fp8e4m3) (ix2 r l) = (V c main_v0 : Vec F S6144x2048 .fp8e4m3) (ix2 r l) := by
  unfold iblk1
  rw [View.read_apply]
  refine congrArg (V c main_v0) ?_
  funext a
  refine Fin.ext ?_
  match a with
  | ⟨0, _⟩ => show win1_3.index t 0 * 6144 + 1 * r.val = r.val; rw [(idx1_3 t).1]; omega
  | ⟨1, _⟩ => show win1_3.index t 1 * 2048 + 1 * l.val = l.val; rw [(idx1_3 t).2]; omega

theorem blk1_4 (c : Dev nD) (t : Fin cfg1.N) (r : Fin 6144) (l : Fin 512) (h : 512 * t.val + l.val < 8192) :
    (iblk1 V c 4 t : Vec F S6144x512 .bf16) (ix2 r l) = (V c main_v1 : Vec F S6144x8192 .bf16) (ix2 r ⟨512 * t.val + l.val, h⟩) := by
  unfold iblk1
  rw [View.read_apply]
  refine congrArg (V c main_v1) ?_
  funext a
  refine Fin.ext ?_
  match a with
  | ⟨0, _⟩ => show win1_4.index t 0 * 6144 + 1 * r.val = r.val; rw [(idx1_4 t).1]; omega
  | ⟨1, _⟩ => show win1_4.index t 1 * 512 + 1 * l.val = 512 * t.val + l.val; rw [(idx1_4 t).2]; omega

theorem blk1_5 (c : Dev nD) (t : Fin cfg1.N) (r : Fin 2048) (l : Fin 512) (h : 512 * t.val + l.val < 8192) :
    (iblk1 V c 5 t : Vec F S2048x512 .f32) (ix2 r l) = (V c main_arg3 : Vec F S2048x8192 .f32) (ix2 r ⟨512 * t.val + l.val, h⟩) := by
  unfold iblk1
  rw [View.read_apply]
  refine congrArg (V c main_arg3) ?_
  funext a
  refine Fin.ext ?_
  match a with
  | ⟨0, _⟩ => show win1_5.index t 0 * 2048 + 1 * r.val = r.val; rw [(idx1_5 t).1]; omega
  | ⟨1, _⟩ => show win1_5.index t 1 * 512 + 1 * l.val = 512 * t.val + l.val; rw [(idx1_5 t).2]; omega

end Cert.KernelIdeal.Run

end
-- ==== Proof.KernelIdeal.Final0.lean ====
module

public import proofs.«01_k».proof.Proof.KernelIdeal.Windows

/-! What the first region leaves in its two tiles. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The two tiles after the first region: the total's scale and its inverse. -/
theorem last_pt (t : Fin cfg0.N) (hf : t.val % 12 = 11) : t = ⟨11, h11⟩ := by
  have hN : cfg0.N = 12 := N0'
  have := t.isLt
  exact Fin.ext (by dsimp only; omega)

theorem flushed0_1 (c : Dev nD) (t : Fin cfg0.N) (hf : (cfg0.win 1).flush t = true) :
    (dat0 V c).flushed 1 t = ((cfg0.win 1).blk t).view.read (Elt F) (scaleTile (total V c) : Buf (Elt F) ((c : Thread nD τ).loc main_v2_0)) := by
  obtain rfl := last_pt t ((flush0_1 t).mp hf)
  show (cfg0.win 1).cut (grid0.coords ⟨11, h11⟩) ((dat0 V c).after 1 ⟨11, h11⟩) = _
  rw [after0_1, (last_C V c).1]
  have hz' : (fun a => win0_1.index ⟨11, h11⟩ a * main_v2_0.ty.shape.size a) = fun _ => 0 := funext fun a => by fin_cases a <;> decide
  exact (Memref.read_access_unit_zero (Elt F) main_v2_0 hz' (fun a => by rw [congrFun hz' a]; simp) (scaleTile (total V c))).symm

theorem final0_1 (c : Dev nD) : (dat0 V c).arrAt 1 cfg0.N = (scaleTile (total V c) : Buf (Elt F) ((c : Thread nD τ).loc main_v2_0)) :=
  (dat0 V c).arrAt_eq_of_cover 1 (scaleTile (total V c) : Buf (Elt F) ((c : Thread nD τ).loc main_v2_0)) (flushed0_1 V c) fun i =>
    ⟨⟨11, h11⟩, (flush0_1 ⟨11, h11⟩).mpr rfl, by
      show i ∈ ((View.whole main_v2_0).slice (win0_1.rect ⟨11, h11⟩)).set
      rw [View.set_slice_whole, Rect.mem_set_unit]
      intro a
      have h0 : (i 0 : Nat) < 8 := (i 0).isLt
      have h1 : (i 1 : Nat) < 128 := (i 1).isLt
      match a with
      | ⟨0, _⟩ => show win0_1.index ⟨11, h11⟩ 0 * 8 ≤ (i 0 : Nat) ∧ (i 0 : Nat) < win0_1.index ⟨11, h11⟩ 0 * 8 + 8
                  rw [(idx0_1 _).1]; omega
      | ⟨1, _⟩ => show win0_1.index ⟨11, h11⟩ 1 * 128 ≤ (i 1 : Nat) ∧ (i 1 : Nat) < win0_1.index ⟨11, h11⟩ 1 * 128 + 128
                  rw [(idx0_1 _).2]; omega⟩

theorem flushed0_2 (c : Dev nD) (t : Fin cfg0.N) (hf : (cfg0.win 2).flush t = true) :
    (dat0 V c).flushed 2 t = ((cfg0.win 2).blk t).view.read (Elt F) (invTile (total V c) : Buf (Elt F) ((c : Thread nD τ).loc main_v2_1)) := by
  obtain rfl := last_pt t ((flush0_2 t).mp hf)
  show (cfg0.win 2).cut (grid0.coords ⟨11, h11⟩) ((dat0 V c).after 2 ⟨11, h11⟩) = _
  rw [after0_2, (last_C V c).2]
  have hz' : (fun a => win0_2.index ⟨11, h11⟩ a * main_v2_1.ty.shape.size a) = fun _ => 0 := funext fun a => by fin_cases a <;> decide
  exact (Memref.read_access_unit_zero (Elt F) main_v2_1 hz' (fun a => by rw [congrFun hz' a]; simp) (invTile (total V c))).symm

theorem final0_2 (c : Dev nD) : (dat0 V c).arrAt 2 cfg0.N = (invTile (total V c) : Buf (Elt F) ((c : Thread nD τ).loc main_v2_1)) :=
  (dat0 V c).arrAt_eq_of_cover 2 (invTile (total V c) : Buf (Elt F) ((c : Thread nD τ).loc main_v2_1)) (flushed0_2 V c) fun i =>
    ⟨⟨11, h11⟩, (flush0_2 ⟨11, h11⟩).mpr rfl, by
      show i ∈ ((View.whole main_v2_1).slice (win0_2.rect ⟨11, h11⟩)).set
      rw [View.set_slice_whole, Rect.mem_set_unit]
      intro a
      have h0 : (i 0 : Nat) < 8 := (i 0).isLt
      have h1 : (i 1 : Nat) < 128 := (i 1).isLt
      match a with
      | ⟨0, _⟩ => show win0_2.index ⟨11, h11⟩ 0 * 8 ≤ (i 0 : Nat) ∧ (i 0 : Nat) < win0_2.index ⟨11, h11⟩ 0 * 8 + 8
                  rw [(idx0_2 _).1]; omega
      | ⟨1, _⟩ => show win0_2.index ⟨11, h11⟩ 1 * 128 ≤ (i 1 : Nat) ∧ (i 1 : Nat) < win0_2.index ⟨11, h11⟩ 1 * 128 + 128
                  rw [(idx0_2 _).2]; omega⟩

end Cert.KernelIdeal.Run

end
-- ==== Proof.KernelIdeal.Pay1.lean ====
module

public import proofs.«01_k».proof.Proof.KernelIdeal.Blocks1
public import Idealize.ShloMosaic.Lib.Pointwise

/-! Region 1's functions at an index, over the extended reals. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A value clipped to the largest finite e5m2, at both ends. -/
def clip (d : EReal) : EReal := min (Ideal.ofBits .f32 0x47600000#32) (max (Ideal.ofBits .f32 0xC7600000#32) d)

/-- The codes of one slab at an index. -/
theorem codeBlk_at (x2 : Vec Ideal S8x128 .f32) (x4 : Vec Ideal S6144x512 .bf16) (k : Fin 6144) (q : Fin 512) :
    codeBlk (F := Ideal) x2 x4 (ix2 k q) = clip (x4 (ix2 k q) * x2 (ix2 0 0)) := by
  pointwise [codeBlk, k1_pay4, corner]
  rfl

/-- One row chunk at an index. -/
theorem chunk_at (x0 : Vec Ideal S1 .f32) (x1 x2 : Vec Ideal S8x128 .f32) (x4 : Vec Ideal S6144x512 .bf16)
    (w : Vec Ideal S6144x512 .fp8e4m3) (a : Vec Ideal S512x512 .f32) (r q : Fin 512) :
    chunk (F := Ideal) x0 x1 x2 x4 w a (ix2 r q)
      = a (ix2 r q) + (∑ k : Fin 6144, w (ix2 k r) * codeBlk (F := Ideal) x2 x4 (ix2 k q)) * (x0 one0 * x1 (ix2 0 0)) := by
  pointwise [chunk, k1_pay2, k1_pay5, corner]

/-- What a slab's gradient block holds at an index. -/
def dwBlk (x0 : Vec Ideal S1 .f32) (x1 x2 : Vec Ideal S8x128 .f32) (x3 : Vec Ideal S6144x2048 .fp8e4m3) (x4 : Vec Ideal S6144x512 .bf16)
    (x5 : Vec Ideal S2048x512 .f32) : S2048x512.Idx → EReal := fun y =>
  x5 y + (∑ k : Fin 6144, x3 (ix2 k (y 0)) * clip (x4 (ix2 k (y 1)) * x2 (ix2 0 0))) * (x0 one0 * x1 (ix2 0 0))

theorem out_6_eq (c : Dev nD) (i : grid1.Coords) (a1 : Memref sig .tc .smem S1 .f32) (h1 : a1.IsWhole) (a2 : Memref sig .tc .vmem S8x128 .f32) (h2 : a2.IsWhole) (a3 : Memref sig .tc .vmem S8x128 .f32) (h3 : a3.IsWhole) (a4 : Memref sig .tc .vmem S6144x2048 .fp8e4m3) (h4 : a4.IsWhole) (a5 : Memref sig .tc .vmem S6144x512 .bf16) (h5 : a5.IsWhole) (a6 : Memref sig .tc .vmem S2048x512 .f32) (h6 : a6.IsWhole) (a7 : Memref sig .tc .vmem S2048x512 .f32) (h7 : a7.IsWhole) (a8 : Memref sig .tc .vmem S6144x512 .fp8e5m2) (h8 : a8.IsWhole)
    (x0 : Vec Ideal S1 .f32) (x1 : Vec Ideal S8x128 .f32) (x2 : Vec Ideal S8x128 .f32) (x3 : Vec Ideal S6144x2048 .fp8e4m3) (x4 : Vec Ideal S6144x512 .bf16) (x5 : Vec Ideal S2048x512 .f32) :
    out1_A_6 (F := Ideal) c i a1 h1 a2 h2 a3 h3 a4 h4 a5 h5 a6 h6 a7 h7 a8 h8 x0 x1 x2 x3 x4 x5 = dwBlk x0 x1 x2 x3 x4 x5 := by
  refine out_6 (F := Ideal) c i a1 h1 a2 h2 a3 h3 a4 h4 a5 h5 a6 h6 a7 h7 a8 h8 x0 x1 x2 x3 x4 x5 _ fun o ho ho' j => ?_
  obtain ⟨r, q, rfl⟩ : ∃ (r q : Fin 512), j = ix2 r q := ⟨j 0, j 1, eq_ix2 j⟩
  rw [chunk_at]
  unfold dwBlk
  refine congrArg₂ (· + ·) rfl (congrArg₂ (· * ·) (Finset.sum_congr rfl fun k _ => ?_) rfl)
  rw [codeBlk_at]
  refine congrArg₂ (· * ·) (congrArg x3 ?_) (congrArg (fun z => clip (x4 z * x2 (ix2 0 0))) ?_)
  · funext a
    refine Fin.ext ?_
    match a with
    | ⟨0, _⟩ => show 0 + 1 * k.val = k.val; omega
    | ⟨1, _⟩ => rfl
  · funext a
    refine Fin.ext ?_
    match a with
    | ⟨0, _⟩ => rfl
    | ⟨1, _⟩ => show q.val = 0 + 1 * q.val; omega

end Cert.KernelIdeal.Run

end
-- ==== Proof.KernelIdeal.Final1.lean ====
module

public import proofs.«01_k».proof.Proof.KernelIdeal.Windows
public import proofs.«01_k».proof.Proof.KernelIdeal.Pay1

/-! What the second region leaves in its two result arrays. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

/-- The gradient array, of the tokens' codes, their scale, the two tiles, the gradient and the running sum. -/
def dwOf (xs : S1.Idx → EReal) (sc iv : S8x128.Idx → EReal) (x : S6144x2048.Idx → EReal) (dy : S6144x8192.Idx → EReal)
    (acc : S2048x8192.Idx → EReal) : S2048x8192.Idx → EReal := fun i =>
  acc i + (∑ k : Fin 6144, x (ix2 k (i 0)) * clip (dy (ix2 k (i 1)) * iv (ix2 0 0))) * (xs one0 * sc (ix2 0 0))

/-- The codes array, of the inverse tile and the gradient. -/
def codesOf (iv : S8x128.Idx → EReal) (dy : S6144x8192.Idx → EReal) : S6144x8192.Idx → EReal := fun i =>
  clip (dy i * iv (ix2 0 0))

/-- The point that writes a column: its slab's. -/
def slab (q : Fin 8192) : Fin cfg1.N := ⟨q.val / 512, by have h1 := q.isLt; rw [N1']; omega⟩

/-- What the gradient array holds after the second region. -/
def dwArr (c : Dev nD) : S2048x8192.Idx → EReal :=
  dwOf (V c main_v3) (V c main_v2_0) (V c main_v2_1) (V c main_v0) (V c main_v1) (V c main_arg3)

/-- What the codes array holds after the second region. -/
def codesArr (c : Dev nD) : S6144x8192.Idx → EReal := codesOf (V c main_v2_1) (V c main_v1)

theorem flushed1_6 (c : Dev nD) (t : Fin cfg1.N) (_ : (cfg1.win 6).flush t = true) :
    (dat1 (F := Ideal) V c).flushed 6 t = ((cfg1.win 6).blk t).view.read (Elt Ideal) (dwArr V c : Buf (Elt Ideal) ((c : Thread nD τ).loc main_v4_0)) := by
  show (cfg1.win 6).cut (grid1.coords t) ((dat1 (F := Ideal) V c).after 6 t) = _
  rw [after1_6]
  unfold outsAt1
  dsimp only
  rw [out_6_eq]
  funext y
  obtain ⟨r, q, rfl⟩ : ∃ (r : Fin 2048) (q : Fin 512), y = ix2 r q := ⟨y 0, y 1, eq_ix2 y⟩
  rw [View.read_apply]
  have hq : 512 * t.val + q.val < 8192 := by have := t.isLt; have := q.isLt; have : cfg1.N = 16 := N1'; omega
  have he : (((cfg1.win 6).blk t).view.emb (ix2 r q) : S2048x8192.Idx) = ix2 r ⟨512 * t.val + q.val, hq⟩ := by
    funext a
    refine Fin.ext ?_
    match a with
    | ⟨0, _⟩ => show win1_6.index t 0 * 2048 + 1 * r.val = r.val; rw [(idx1_6 t).1]; omega
    | ⟨1, _⟩ => show win1_6.index t 1 * 512 + 1 * q.val = 512 * t.val + q.val; rw [(idx1_6 t).2]; omega
  refine Eq.trans ?_ (congrArg (dwArr V c) he).symm
  show dwBlk _ _ _ _ _ _ (ix2 r q) = _
  unfold dwBlk dwArr dwOf
  simp only [ix2_0, ix2_1]
  rw [blk1_0 V c t, blk1_1 V c t 0 0, blk1_5 V c t r q hq]
  refine congrArg₂ (· + ·) rfl (congrArg₂ (· * ·) (Finset.sum_congr rfl fun k _ => ?_) rfl)
  rw [blk1_2 V c t 0 0, blk1_3 V c t k r, blk1_4 V c t k q hq]

theorem final1_6 (c : Dev nD) : (dat1 (F := Ideal) V c).arrAt 6 cfg1.N = (dwArr V c : Buf (Elt Ideal) ((c : Thread nD τ).loc main_v4_0)) :=
  (dat1 (F := Ideal) V c).arrAt_eq_of_cover 6 (dwArr V c : Buf (Elt Ideal) ((c : Thread nD τ).loc main_v4_0)) (flushed1_6 V c) fun i =>
    ⟨slab ⟨(i 1).val, (i 1).isLt⟩, flush1_6 _, by
      show i ∈ ((View.whole main_v4_0).slice (win1_6.rect (slab ⟨(i 1).val, (i 1).isLt⟩))).set
      rw [View.set_slice_whole, Rect.mem_set_unit]
      intro a
      have h0 : (i 0 : Nat) < 2048 := (i 0).isLt
      have h1 : (i 1 : Nat) < 8192 := (i 1).isLt
      match a with
      | ⟨0, _⟩ => show win1_6.index (slab ⟨(i 1).val, (i 1).isLt⟩) 0 * 2048 ≤ (i 0 : Nat) ∧ (i 0 : Nat) < win1_6.index (slab ⟨(i 1).val, (i 1).isLt⟩) 0 * 2048 + 2048
                  rw [(idx1_6 _).1]; omega
      | ⟨1, _⟩ => show win1_6.index (slab ⟨(i 1).val, (i 1).isLt⟩) 1 * 512 ≤ (i 1 : Nat) ∧ (i 1 : Nat) < win1_6.index (slab ⟨(i 1).val, (i 1).isLt⟩) 1 * 512 + 512
                  rw [(idx1_6 _).2]; show (i 1).val / 512 * 512 ≤ (i 1).val ∧ (i 1).val < (i 1).val / 512 * 512 + 512; omega⟩

theorem flushed1_7 (c : Dev nD) (t : Fin cfg1.N) (_ : (cfg1.win 7).flush t = true) :
    (dat1 (F := Ideal) V c).flushed 7 t = ((cfg1.win 7).blk t).view.read (Elt Ideal) (codesArr V c : Buf (Elt Ideal) ((c : Thread nD τ).loc main_v4_1)) := by
  show (cfg1.win 7).cut (grid1.coords t) ((dat1 (F := Ideal) V c).after 7 t) = _
  rw [after1_7]
  unfold outsAt1
  dsimp only
  rw [out_7]
  funext y
  obtain ⟨r, q, rfl⟩ : ∃ (r : Fin 6144) (q : Fin 512), y = ix2 r q := ⟨y 0, y 1, eq_ix2 y⟩
  rw [View.read_apply]
  have hq : 512 * t.val + q.val < 8192 := by have := t.isLt; have := q.isLt; have : cfg1.N = 16 := N1'; omega
  have he : (((cfg1.win 7).blk t).view.emb (ix2 r q) : S6144x8192.Idx) = ix2 r ⟨512 * t.val + q.val, hq⟩ := by
    funext a
    refine Fin.ext ?_
    match a with
    | ⟨0, _⟩ => show win1_7.index t 0 * 6144 + 1 * r.val = r.val; rw [(idx1_7 t).1]; omega
    | ⟨1, _⟩ => show win1_7.index t 1 * 512 + 1 * q.val = 512 * t.val + q.val; rw [(idx1_7 t).2]; omega
  refine Eq.trans ?_ (congrArg (codesArr V c) he).symm
  show codeBlk (F := Ideal) _ _ (ix2 r q) = _
  rw [codeBlk_at]
  unfold codesArr codesOf
  rw [blk1_2 V c t 0 0, blk1_4 V c t r q hq]

theorem final1_7 (c : Dev nD) : (dat1 (F := Ideal) V c).arrAt 7 cfg1.N = (codesArr V c : Buf (Elt Ideal) ((c : Thread nD τ).loc main_v4_1)) :=
  (dat1 (F := Ideal) V c).arrAt_eq_of_cover 7 (codesArr V c : Buf (Elt Ideal) ((c : Thread nD τ).loc main_v4_1)) (flushed1_7 V c) fun i =>
    ⟨slab ⟨(i 1).val, (i 1).isLt⟩, flush1_7 _, by
      show i ∈ ((View.whole main_v4_1).slice (win1_7.rect (slab ⟨(i 1).val, (i 1).isLt⟩))).set
      rw [View.set_slice_whole, Rect.mem_set_unit]
      intro a
      have h0 : (i 0 : Nat) < 6144 := (i 0).isLt
      have h1 : (i 1 : Nat) < 8192 := (i 1).isLt
      match a with
      | ⟨0, _⟩ => show win1_7.index (slab ⟨(i 1).val, (i 1).isLt⟩) 0 * 6144 ≤ (i 0 : Nat) ∧ (i 0 : Nat) < win1_7.index (slab ⟨(i 1).val, (i 1).isLt⟩) 0 * 6144 + 6144
                  rw [(idx1_7 _).1]; omega
      | ⟨1, _⟩ => show win1_7.index (slab ⟨(i 1).val, (i 1).isLt⟩) 1 * 512 ≤ (i 1 : Nat) ∧ (i 1 : Nat) < win1_7.index (slab ⟨(i 1).val, (i 1).isLt⟩) 1 * 512 + 512
                  rw [(idx1_7 _).2]; show (i 1).val / 512 * 512 ≤ (i 1).val ∧ (i 1).val < (i 1).val / 512 * 512 + 512; omega⟩

end Cert.KernelIdeal.Run

end
-- ==== Proof.KernelIdeal.Value.lean ====
module

public import proofs.«01_k».proof.Proof.KernelIdeal.RunMain
public import proofs.«01_k».proof.Proof.KernelIdeal.Final0
public import proofs.«01_k».proof.Proof.KernelIdeal.Final1
public import Idealize.ShloMosaic.Lib.StableHlo.Run

/-! The results after the whole run, as terms of the arguments. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

variable (m : (ℓ : Loc nD τ sig) → Buf (Elt Ideal) ℓ) (ρ : Dev nD → PrngReg)

/-- The gradient as the regions read it: the argument with its two leading axes joined. -/
def dyIn (c : Dev nD) : S6144x8192.Idx → EReal :=
  shapeCast S6144x8192 (m ((c : Thread nD τ).loc main_arg2) : Vec Ideal S3x2048x8192 .bf16) shapeCasts_S3x2048x8192_S6144x8192

/-- The activations' codes as the second region reads them. -/
def xIn (c : Dev nD) : S6144x2048.Idx → EReal :=
  shapeCast S6144x2048 (m ((c : Thread nD τ).loc main_arg0) : Vec Ideal S3x2048x2048 .fp8e4m3) shapeCasts_S3x2048x2048_S6144x2048

/-- Their scale as the second region reads it. -/
def xsIn (c : Dev nD) : S1.Idx → EReal :=
  shapeCast S1 (m ((c : Thread nD τ).loc main_arg1) : Vec Ideal S_ .f32) shapeCasts_S_S1

/-- The running sum the product is added to. -/
def accIn (c : Dev nD) : S2048x8192.Idx → EReal := m ((c : Thread nD τ).loc main_arg3)

theorem V1_v0 (c : Dev nD) : (V1 m ρ c main_v0 : Vec Ideal S6144x2048 .fp8e4m3) = xIn m c := by
  show StableHlo.after hostOps0 (W0 m ρ c) (Proc.devRef .tc main_v0) = _
  after_results
  rfl

theorem V1_v1 (c : Dev nD) : (V1 m ρ c main_v1 : Vec Ideal S6144x8192 .bf16) = dyIn m c := by
  show StableHlo.after hostOps0 (W0 m ρ c) (Proc.devRef .tc main_v1) = _
  after_results
  rfl

/-- The scale tile of the gradient's total. -/
def scT (c : Dev nD) : S8x128.Idx → EReal := scaleTile (F := Ideal) (total (V1 m ρ) c)
/-- The inverse tile of the gradient's total. -/
def ivT (c : Dev nD) : S8x128.Idx → EReal := invTile (F := Ideal) (total (V1 m ρ) c)

theorem W2_v2_0 (c : Dev nD) : W2 m ρ c (Proc.devRef .tc main_v2_0) = (scT m ρ c : Buf (Elt Ideal) ((c : Thread nD τ).loc main_v2_0)) :=
  (W2_arr m ρ c 1).trans (final0_1 (V1 m ρ) c)
theorem W2_v2_1 (c : Dev nD) : W2 m ρ c (Proc.devRef .tc main_v2_1) = (ivT m ρ c : Buf (Elt Ideal) ((c : Thread nD τ).loc main_v2_1)) :=
  (W2_arr m ρ c 2).trans (final0_2 (V1 m ρ) c)

theorem V3_v2_0 (c : Dev nD) : V3 m ρ c main_v2_0 = (scT m ρ c : Buf (Elt Ideal) ((c : Thread nD τ).loc main_v2_0)) :=
  (W3_of m ρ c main_v2_0 (by decide)).trans (W2_v2_0 m ρ c)
theorem V3_v2_1 (c : Dev nD) : V3 m ρ c main_v2_1 = (ivT m ρ c : Buf (Elt Ideal) ((c : Thread nD τ).loc main_v2_1)) :=
  (W3_of m ρ c main_v2_1 (by decide)).trans (W2_v2_1 m ρ c)
theorem V3_v0 (c : Dev nD) : V3 m ρ c main_v0 = (xIn m c : Buf (Elt Ideal) ((c : Thread nD τ).loc main_v0)) :=
  (W3_of m ρ c main_v0 (by decide)).trans ((W2_of m ρ c main_v0 (by decide)).trans (V1_v0 m ρ c))
theorem V3_v1 (c : Dev nD) : V3 m ρ c main_v1 = (dyIn m c : Buf (Elt Ideal) ((c : Thread nD τ).loc main_v1)) :=
  (W3_of m ρ c main_v1 (by decide)).trans ((W2_of m ρ c main_v1 (by decide)).trans (V1_v1 m ρ c))
theorem V3_arg3 (c : Dev nD) : V3 m ρ c main_arg3 = (accIn m c : Buf (Elt Ideal) ((c : Thread nD τ).loc main_arg3)) :=
  W3_args m ρ c main_arg3 (by decide)
theorem V3_v3 (c : Dev nD) : V3 m ρ c main_v3 = (xsIn m c : Buf (Elt Ideal) ((c : Thread nD τ).loc main_v3)) := by
  show StableHlo.after hostOps1 (W2 m ρ c) (Proc.devRef .tc main_v3) = _
  after_results
  rw [W2_args m ρ c main_arg1 (by decide)]
  rfl

/-- The gradient result. -/
def dwRes (c : Dev nD) : S2048x8192.Idx → EReal := dwOf (xsIn m c) (scT m ρ c) (ivT m ρ c) (xIn m c) (dyIn m c) (accIn m c)
/-- The codes result. -/
def codesRes (c : Dev nD) : Vec Ideal S3x2048x8192 .fp8e5m2 :=
  shapeCast S3x2048x8192 (codesOf (ivT m ρ c) (dyIn m c) : Vec Ideal S6144x8192 .fp8e5m2) shapeCasts_S6144x8192_S3x2048x8192
/-- The scale result. -/
def scaleRes (c : Dev nD) : Vec Ideal S_ .f32 :=
  shapeCast S_ (extractStridedSlice S1x1 ![0, 0] (scT m ρ c : Vec Ideal S8x128 .f32) slices_S8x128_S1x1_0_0) shapeCasts_S1x1_S_

theorem W5_v4_0 (c : Dev nD) : W5 m ρ c (Proc.devRef .tc main_v4_0) = (dwRes m ρ c : Buf (Elt Ideal) ((c : Thread nD τ).loc main_v4_0)) := by
  refine (W5_of m ρ c main_v4_0 (by decide)).trans ((W4_arr m ρ c 6).trans ((final1_6 (V3 m ρ) c).trans ?_))
  unfold dwArr dwRes
  rw [V3_v3, V3_v2_0, V3_v2_1, V3_v0, V3_v1, V3_arg3]

theorem W4_v4_1 (c : Dev nD) : W4 m ρ c (Proc.devRef .tc main_v4_1)
    = (codesOf (ivT m ρ c) (dyIn m c) : Buf (Elt Ideal) ((c : Thread nD τ).loc main_v4_1)) := by
  refine (W4_arr m ρ c 7).trans ((final1_7 (V3 m ρ) c).trans ?_)
  unfold codesArr
  rw [V3_v2_1, V3_v1]

theorem W5_v5 (c : Dev nD) : W5 m ρ c (Proc.devRef .tc main_v5) = (codesRes m ρ c : Buf (Elt Ideal) ((c : Thread nD τ).loc main_v5)) := by
  show StableHlo.after hostOps2 (W4 m ρ c) (Proc.devRef .tc main_v5) = _
  after_results
  rw [W4_v4_1]
  rfl

theorem W5_v7 (c : Dev nD) : W5 m ρ c (Proc.devRef .tc main_v7) = (scaleRes m ρ c : Buf (Elt Ideal) ((c : Thread nD τ).loc main_v7)) := by
  show StableHlo.after hostOps2 (W4 m ρ c) (Proc.devRef .tc main_v7) = _
  after_results
  rw [(W4_of m ρ c main_v2_0 (by decide)).trans (V3_v2_0 m ρ c)]
  rfl

/-- The run, read: the three results at their terms, the arguments unchanged. -/
theorem run_values : θ_run defs (onTc (τ := τ) (main (F := Ideal))) ⟨m, fun _ => 0, ρ⟩ (fun r => ∀ c : Dev nD,
      r.2.mem ((c.tc : Thread nD τ).loc main_v4_0) = (dwRes m ρ c : Buf (Elt Ideal) ((c : Thread nD τ).loc main_v4_0))
      ∧ r.2.mem ((c.tc : Thread nD τ).loc main_v5) = (codesRes m ρ c : Buf (Elt Ideal) ((c : Thread nD τ).loc main_v5))
      ∧ r.2.mem ((c.tc : Thread nD τ).loc main_v7) = (scaleRes m ρ c : Buf (Elt Ideal) ((c : Thread nD τ).loc main_v7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨(h.1 c _ (mem_uc main_v4_0 (by decide))).trans (W5_v4_0 m ρ c),
       (h.1 c _ (mem_uc main_v5 (by decide))).trans (W5_v5 m ρ c),
       (h.1 c _ (mem_uc main_v7 (by decide))).trans (W5_v7 m ρ c),
       (h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c)⟩)
    (run_bufs m ρ)

end Cert.KernelIdeal.Run

end
-- ==== Proof.Scale.lean ====
module

public import Idealize.ShloMosaic.PureOps.Ideal
public import Idealize.ShloMosaic.PureOps.IdealRules
public import Idealize.ShloMosaic.PureOps.Ideal.Laws

/-! The scale's exponent over the extended reals: the kernel finds the biased exponent of a value by
bisection, the reference takes a floor of a logarithm, and both name the same power of two. -/

@[expose] public section

set_option maxRecDepth 16384

noncomputable section

namespace Cert.Scale

open Idealize.ShloMosaic

/-- The value whose bits are the biased exponent `n` over an empty fraction. -/
def pw (n : ℕ) : EReal := Ideal.ofBits .f32 (BitVec.ofNat 32 n <<< 23)

/-- The three fields of such a word. -/
theorem fields : ∀ n : Fin 256, ((BitVec.ofNat 32 n.val <<< 23).extractLsb' 31 1 == 1#1) = false
    ∧ ((BitVec.ofNat 32 n.val <<< 23).extractLsb' 23 8).toNat = n.val
    ∧ ((BitVec.ofNat 32 n.val <<< 23).extractLsb' 0 23).toNat = 0 := by decide +kernel

/-- A positive normal single, from its fields. -/
theorem ieee_norm (b : BitVec 32) (ex fr : ℕ) (e1 : (b.extractLsb' 31 1 == 1#1) = false) (e2 : (b.extractLsb' 23 8).toNat = ex)
    (e3 : (b.extractLsb' 0 23).toNat = fr) (h1 : 1 ≤ ex) (h2 : ex ≤ 254) :
    Ideal.ofBits .f32 b = ((((8388608 + fr : ℕ) : ℝ) * (2 : ℝ) ^ ((ex : ℤ) - 150) : ℝ) : EReal) := by
  unfold Ideal.ofBits Ideal.ieee
  dsimp only
  simp only [Nat.reduceAdd, e1, e2, e3]
  rw [if_neg (by omega), if_neg (by omega)]
  congr 1
  rw [show ((ex : ℤ) - (2 ^ (8 - 1) - 1) - (23 : ℕ)) = (ex : ℤ) - 150 from by norm_num; ring]
  norm_num

theorem pw_real (n : ℕ) (h1 : 1 ≤ n) (h2 : n ≤ 254) : pw n = (((2 : ℝ) ^ ((n : ℤ) - 127) : ℝ) : EReal) := by
  obtain ⟨e1, e2, e3⟩ := fields ⟨n, by omega⟩
  refine (ieee_norm _ n 0 e1 e2 e3 h1 h2).trans ?_
  have h := zpow_add₀ (two_ne_zero (α := ℝ)) ((n : ℤ) - 150) 23
  rw [show ((n : ℤ) - 150) + 23 = (n : ℤ) - 127 from by ring] at h
  rw [h, mul_comm]
  norm_num

theorem ieee_top (b : BitVec 32) (e1 : (b.extractLsb' 31 1 == 1#1) = false) (e2 : (b.extractLsb' 23 8).toNat = 255)
    (e3 : (b.extractLsb' 0 23).toNat = 0) : Ideal.ofBits .f32 b = ⊤ := by
  unfold Ideal.ofBits Ideal.ieee
  dsimp only
  simp only [Nat.reduceAdd, e1, e2, e3]
  norm_num

theorem ieee_bot (b : BitVec 32) (e1 : (b.extractLsb' 31 1 == 1#1) = true) (e2 : (b.extractLsb' 23 8).toNat = 255)
    (e3 : (b.extractLsb' 0 23).toNat = 0) : Ideal.ofBits .f32 b = ⊥ := by
  unfold Ideal.ofBits Ideal.ieee
  dsimp only
  simp only [Nat.reduceAdd, e1, e2, e3]
  norm_num

theorem pw_top : pw 255 = ⊤ := by
  obtain ⟨e1, e2, e3⟩ := fields ⟨255, by omega⟩
  exact ieee_top _ e1 e2 e3

/-- One bisection step: keep the candidate exponent if the value is at least its power. -/
def step (v : EReal) (b k : BitVec 32) : BitVec 32 :=
  if Ideal.ofBits .f32 (IntOp.shli .vector (IntOp.addi b k) 23#32) ≤ v then IntOp.addi b k else b

/-- The step's invariant: the value lies between the powers at `n` and at `n` plus the open width. -/
def Inv (v : EReal) (n w : ℕ) : Prop := n + w ≤ 256 ∧ (n = 0 ∨ pw n ≤ v) ∧ (n + w = 256 ∨ v < pw (n + w))

theorem step_eq (v : EReal) (n k : ℕ) :
    step v (BitVec.ofNat 32 n) (BitVec.ofNat 32 k) = if pw (n + k) ≤ v then BitVec.ofNat 32 (n + k) else BitVec.ofNat 32 n := by
  have e : IntOp.addi (BitVec.ofNat 32 n) (BitVec.ofNat 32 k) = BitVec.ofNat 32 (n + k) := BitVec.ofNat_add_ofNat ..
  unfold step
  rw [e]
  rfl

theorem step_inv (v : EReal) (n k : ℕ) (h : Inv v n (k + k)) :
    ∃ n', step v (BitVec.ofNat 32 n) (BitVec.ofNat 32 k) = BitVec.ofNat 32 n' ∧ Inv v n' k := by
  obtain ⟨h1, h2, h3⟩ := h
  rw [step_eq]
  by_cases c : pw (n + k) ≤ v
  · exact ⟨n + k, by rw [if_pos c], by omega, .inr c, by rw [Nat.add_assoc]; exact h3⟩
  · exact ⟨n, by rw [if_neg c], by omega, h2, .inr (not_le.mp c)⟩

/-- The eight steps. -/
def bisect (v : EReal) : BitVec 32 :=
  step v (step v (step v (step v (step v (step v (step v (step v 0#32 128#32) 64#32) 32#32) 16#32) 8#32) 4#32) 2#32) 1#32

theorem bisect_inv (v : EReal) : ∃ n, bisect v = BitVec.ofNat 32 n ∧ Inv v n 1 := by
  obtain ⟨n1, e1, h1⟩ := step_inv v 0 128 ⟨by omega, .inl rfl, .inl rfl⟩
  obtain ⟨n2, e2, h2⟩ := step_inv v n1 64 h1
  obtain ⟨n3, e3, h3⟩ := step_inv v n2 32 h2
  obtain ⟨n4, e4, h4⟩ := step_inv v n3 16 h3
  obtain ⟨n5, e5, h5⟩ := step_inv v n4 8 h4
  obtain ⟨n6, e6, h6⟩ := step_inv v n5 4 h5
  obtain ⟨n7, e7, h7⟩ := step_inv v n6 2 h6
  obtain ⟨n8, e8, h8⟩ := step_inv v n7 1 h7
  refine ⟨n8, ?_, h8⟩
  unfold bisect
  rw [e1, e2, e3, e4, e5, e6, e7, e8]

/-- The exponent the kernel stores, of the whole maximum and of the bisection's answer. -/
def pick (M : EReal) (b : BitVec 32) : BitVec 32 :=
  Scalar.select (IntOp.ori (IntOp.ori (IntOp.cmpi .eq b 0#32) (IntOp.cmpi .eq b 255#32)) (BitVec.ofBool (decide (M = 0))))
    (0#32) (IntOp.subi b 126#32)

/-- The kernel's scale and its inverse, from an exponent. -/
def up (e : BitVec 32) : EReal := Ideal.ofBits .f32 (IntOp.shli .vector (IntOp.addi e 127#32) 23#32)
def down (e : BitVec 32) : EReal := Ideal.ofBits .f32 (IntOp.shli .vector (IntOp.addi (IntOp.subi 0#32 e) 127#32) 23#32)

/-- The factor `1 / 57344` as single precision has it. -/
def inv57344 : EReal := Ideal.ofBits .f32 0x37924925#32

/-- The reference's exponent. -/
def expo (M : EReal) : EReal :=
  if (if M * inv57344 < Ideal.ofBits .f32 0x00800000#32 then 0 else M * inv57344) = 0 then 0
  else Ideal.liftRound Int.floor (Ideal.div (Ideal.log (if M * inv57344 < Ideal.ofBits .f32 0x00800000#32 then 0 else M * inv57344))
    (Ideal.log (Ideal.ofBits .f32 0x40000000#32))) + 1

theorem inv57344_real : ∃ c : ℝ, inv57344 = (c : EReal) ∧ 0 < c ∧ c < (2 : ℝ) ^ (-(15 : ℤ)) := by
  refine ⟨_, ieee_norm _ 0x6F 0x124925 (by decide) (by decide) (by decide) (by decide) (by decide), ?_, ?_⟩
  · positivity
  · norm_num

theorem two_real : Ideal.ofBits .f32 0x40000000#32 = ((2 : ℝ) : EReal) := by
  rw [ieee_norm _ 128 0 (by decide) (by decide) (by decide) (by decide) (by decide)]
  congr 1
  norm_num

theorem least_pw : Ideal.ofBits .f32 0x00800000#32 = pw 1 := rfl

/-- The largest finite value of the gradient's type. -/
theorem big_real : Ideal.ofBits .f32 0x7F7F0000#32 < (((2 : ℝ) ^ (128 : ℤ) : ℝ) : EReal) := by
  rw [ieee_norm _ 254 0x7F0000 (by decide) (by decide) (by decide) (by decide) (by decide), EReal.coe_lt_coe_iff]
  norm_num

/-- Where the value lies, of the bisection's answer: below the least normal, or between two powers. -/
theorem bisect_spec (x : ℝ) (hx0 : 0 ≤ x) (hx : x < (2 : ℝ) ^ (113 : ℤ)) : ∃ n, bisect (x : EReal) = BitVec.ofNat 32 n ∧ n ≤ 239 ∧
    ((n = 0 ∧ x < (2 : ℝ) ^ (-(126 : ℤ))) ∨ (1 ≤ n ∧ (2 : ℝ) ^ ((n : ℤ) - 127) ≤ x ∧ x < (2 : ℝ) ^ ((n : ℤ) - 126))) := by
  obtain ⟨n, e, h1, h2, h3⟩ := bisect_inv (x : EReal)
  have hn : n ≤ 239 := by
    rcases h2 with h2 | h2
    · omega
    by_contra hc
    by_cases h255 : n = 255
    · rw [h255, pw_top, top_le_iff] at h2
      exact EReal.coe_ne_top x h2
    · rw [pw_real n (by omega) (by omega), EReal.coe_le_coe_iff] at h2
      have := zpow_le_zpow_right₀ (one_le_two (α := ℝ)) (show (113 : ℤ) ≤ (n : ℤ) - 127 by omega)
      linarith
  refine ⟨n, e, hn, ?_⟩
  have h3' : x < (2 : ℝ) ^ ((n : ℤ) - 126) := by
    rcases h3 with h3 | h3
    · omega
    · rw [pw_real (n + 1) (by omega) (by omega), EReal.coe_lt_coe_iff] at h3
      rwa [show ((n + 1 : ℕ) : ℤ) - 127 = (n : ℤ) - 126 from by push_cast; ring] at h3
  by_cases h0 : n = 0
  · subst h0
    exact .inl ⟨rfl, by simpa using h3'⟩
  · refine .inr ⟨by omega, ?_, h3'⟩
    rcases h2 with h2 | h2
    · omega
    · rwa [pw_real n (by omega) (by omega), EReal.coe_le_coe_iff] at h2

/-- The exponent picked, of the bisection's answer. -/
theorem pick_facts : ∀ n : Fin 240, ∀ z : Bool, (n.val = 0 ∨ z = false) →
    IntOp.shli .vector (IntOp.addi (Scalar.select (IntOp.ori (IntOp.ori (IntOp.cmpi .eq (BitVec.ofNat 32 n.val) 0#32) (IntOp.cmpi .eq (BitVec.ofNat 32 n.val) 255#32)) (BitVec.ofBool z))
      (0#32) (IntOp.subi (BitVec.ofNat 32 n.val) 126#32)) 127#32) 23#32 = BitVec.ofNat 32 (if n.val = 0 then 127 else n.val + 1) <<< 23
    ∧ IntOp.shli .vector (IntOp.addi (IntOp.subi 0#32 (Scalar.select (IntOp.ori (IntOp.ori (IntOp.cmpi .eq (BitVec.ofNat 32 n.val) 0#32) (IntOp.cmpi .eq (BitVec.ofNat 32 n.val) 255#32)) (BitVec.ofBool z))
      (0#32) (IntOp.subi (BitVec.ofNat 32 n.val) 126#32))) 127#32) 23#32 = BitVec.ofNat 32 (if n.val = 0 then 127 else 253 - n.val) <<< 23 := by
  decide +kernel

/-- The kernel's scale and inverse, and the reference's, of a finite maximum. -/
theorem agree (M : ℝ) (h0 : 0 ≤ M) (hM : M < (2 : ℝ) ^ (128 : ℤ)) :
    up (pick M (bisect (M * inv57344))) = Ideal.exp2 (expo M) ∧ down (pick M (bisect (M * inv57344))) = Ideal.exp2 (0 - expo M) := by
  obtain ⟨c, ec, hc0, hc⟩ := inv57344_real
  have hx0 : 0 ≤ M * c := mul_nonneg h0 hc0.le
  have hx : M * c < (2 : ℝ) ^ (113 : ℤ) := by
    have : M * c < (2 : ℝ) ^ (128 : ℤ) * (2 : ℝ) ^ (-(15 : ℤ)) := mul_lt_mul'' hM hc h0 hc0.le
    rwa [← zpow_add₀ (by norm_num)] at this
  obtain ⟨n, en, hn, hcase⟩ := bisect_spec (M * c) hx0 hx
  have ev : (M : EReal) * inv57344 = ((M * c : ℝ) : EReal) := by rw [ec, ← EReal.coe_mul]
  have hz : n = 0 ∨ decide ((M : EReal) = 0) = false := by
    rcases hcase with ⟨h, -⟩ | ⟨-, h, -⟩
    · exact .inl h
    · refine .inr (decide_eq_false fun h' => ?_)
      rw [EReal.coe_eq_zero] at h'
      rw [h', zero_mul] at h
      exact absurd h (not_le.mpr (by positivity))
  obtain ⟨f1, f2⟩ := pick_facts ⟨n, by omega⟩ _ hz
  have u1 : up (pick M (bisect (M * inv57344))) = pw (if n = 0 then 127 else n + 1) := by
    rw [ev, en]; exact congrArg (Ideal.ofBits .f32) f1
  have u2 : down (pick M (bisect (M * inv57344))) = pw (if n = 0 then 127 else 253 - n) := by
    rw [ev, en]; exact congrArg (Ideal.ofBits .f32) f2
  rw [u1, u2]
  rcases hcase with ⟨hn0, hlt⟩ | ⟨hn1, hle, hlt⟩
  · have ee : expo M = ((0 : ℝ) : EReal) := by
      unfold expo
      rw [ev, least_pw, pw_real 1 (by omega) (by omega), if_pos (EReal.coe_lt_coe_iff.mpr (by simpa using hlt)), if_pos rfl]
      rfl
    rw [ee, if_pos hn0, if_pos hn0, pw_real 127 (by omega) (by omega)]
    constructor
    · rw [Ideal.exp2_coe]; congr 1; simp
    · rw [show (0 : EReal) - ((0 : ℝ) : EReal) = ((0 : ℝ) : EReal) from by simp, Ideal.exp2_coe]; congr 1; simp
  · have hpos : 0 < M * c := lt_of_lt_of_le (by positivity) hle
    have hnf : ¬ (((M * c : ℝ) : EReal) < pw 1) := by
      rw [pw_real 1 (by omega) (by omega), EReal.coe_lt_coe_iff, not_lt]
      exact le_trans (zpow_le_zpow_right₀ one_le_two (by omega)) hle
    have hfl : Int.floor (Real.log (M * c) * (Real.log 2)⁻¹) = (n : ℤ) - 127 := by
      rw [← div_eq_mul_inv, Int.floor_eq_iff]
      have hl2 : 0 < Real.log 2 := Real.log_pos (by norm_num)
      constructor
      · rw [le_div_iff₀ hl2]
        have := Real.log_le_log (by positivity) hle
        rwa [Real.log_zpow] at this
      · rw [div_lt_iff₀ hl2]
        have := Real.log_lt_log hpos hlt
        rw [Real.log_zpow] at this
        refine lt_of_lt_of_eq this ?_
        push_cast; ring
    have ee : expo M = (((n : ℝ) - 126 : ℝ) : EReal) := by
      unfold expo
      rw [ev, least_pw, if_neg hnf, if_neg (by rw [EReal.coe_eq_zero]; exact hpos.ne'), two_real, Ideal.log_coe, Ideal.log_coe,
        if_neg (not_le.mpr hpos), if_neg (by norm_num)]
      unfold Ideal.div
      rw [if_neg (by rw [EReal.coe_eq_zero]; exact (Real.log_pos (by norm_num)).ne'), ← EReal.coe_inv, ← EReal.coe_mul]
      show (((Int.floor (Real.log (M * c) * (Real.log 2)⁻¹) : ℤ) : ℝ) : EReal) + ((1 : ℝ) : EReal) = _
      rw [hfl, ← EReal.coe_add]
      congr 1
      push_cast; ring
    rw [ee, if_neg (by omega), if_neg (by omega), pw_real (n + 1) (by omega) (by omega), pw_real (253 - n) (by omega) (by omega)]
    constructor
    · rw [Ideal.exp2_coe]
      congr 1
      show _ = (2 : ℝ) ^ ((n : ℝ) - 126)
      rw [← Real.rpow_intCast]
      congr 1
      push_cast; ring
    · rw [show (0 : EReal) - (((n : ℝ) - 126 : ℝ) : EReal) = ((126 - (n : ℝ) : ℝ) : EReal) from by
        rw [← EReal.coe_zero, ← EReal.coe_sub]; congr 1; ring, Ideal.exp2_coe]
      congr 1
      show _ = (2 : ℝ) ^ (126 - (n : ℝ))
      rw [← Real.rpow_intCast]
      congr 1
      rw [Nat.cast_sub (by omega)]
      push_cast; ring

end Cert.Scale

end
-- ==== Proof.KernelIdeal.Tile.lean ====
module

public import proofs.«01_k».proof.Proof.KernelIdeal.Value
public import proofs.«01_k».proof.Proof.Scale
public import Idealize.ShloMosaic.Lib.Pointwise

/-! The scale tile and its inverse at an index, over the extended reals. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One bisection step, of tiles. -/
def stepV (v : FVec Ideal S8x128 .f32) (b : IVec S8x128 32) (k : BitVec 32) : IVec S8x128 32 :=
  select (cmpf .oge v (bitcastToFloat (F := Ideal) .f32 (shli (addi b (broadcast S8x128 k)) (broadcast S8x128 23#32)))) (addi b (broadcast S8x128 k)) b

theorem stepV_at (v : FVec Ideal S8x128 .f32) (b : IVec S8x128 32) (k : BitVec 32) (r : Fin 8) (l : Fin 128) :
    stepV v b k (ix2 r l) = Cert.Scale.step (v (ix2 r l)) (b (ix2 r l)) k := by
  pointwise [stepV]
  rfl

theorem pay7_eq (s : Vec Ideal S16x8192 .bf16) : k0_pay7 (F := Ideal) s
   = stepV (k0_pay6 s) (stepV (k0_pay6 s) (stepV (k0_pay6 s) (stepV (k0_pay6 s) (stepV (k0_pay6 s) (broadcast S8x128 0#32) 128#32) 64#32) 32#32) 16#32) 8#32 := by
  unfold k0_pay7 stepV
  rfl

/-- The last three steps. -/
def endV (v : FVec Ideal S8x128 .f32) (b : IVec S8x128 32) : IVec S8x128 32 := stepV v (stepV v (stepV v b 4#32) 2#32) 1#32

/-- The exponent picked, of tiles. -/
def pickV (M : FVec Ideal S8x128 .f32) (b : IVec S8x128 32) : IVec S8x128 32 :=
  select (ori (ori (cmpi .eq b (broadcast S8x128 0#32)) (cmpi .eq b (broadcast S8x128 255#32)))
    (cmpf .oeq M (broadcast S8x128 (Scalar.ofBits (F := Ideal) .f32 0x00000000#32)))) (broadcast S8x128 0#32) (subi b (broadcast S8x128 126#32))

theorem pay8_eq (M v : FVec Ideal S8x128 .f32) (b : IVec S8x128 32) : k0_pay8 (F := Ideal) M v b = pickV M (endV v b) := rfl

theorem pickV_at (M : FVec Ideal S8x128 .f32) (b : IVec S8x128 32) (r : Fin 8) (l : Fin 128) :
    pickV M b (ix2 r l) = Cert.Scale.pick (M (ix2 r l)) (b (ix2 r l)) := by
  pointwise [pickV]
  rfl

theorem pay9_at (M v : FVec Ideal S8x128 .f32) (b : IVec S8x128 32) (r : Fin 8) (l : Fin 128) :
    k0_pay9 (F := Ideal) M v b (ix2 r l) = Cert.Scale.up (pickV M (endV v b) (ix2 r l)) := by
  rw [← pay8_eq]
  pointwise [k0_pay9]
  rfl

theorem pay4_at (M v : FVec Ideal S8x128 .f32) (b : IVec S8x128 32) (r : Fin 8) (l : Fin 128) :
    k0_pay4 (F := Ideal) (k0_pay10 M v b) k0_pay11 (ix2 r l) = Cert.Scale.down (pickV M (endV v b) (ix2 r l)) := by
  rw [← pay8_eq]
  pointwise [k0_pay4, k0_pay10, k0_pay11]
  rfl

/-- The product with the constant, at an index. -/
theorem mul_at (M : FVec Ideal S8x128 .f32) (r : Fin 8) (l : Fin 128) :
    mulf M (broadcast S8x128 (Scalar.ofBits (F := Ideal) .f32 0x37924925#32)) (ix2 r l) = M (ix2 r l) * Cert.Scale.inv57344 := rfl

theorem pay6_at (s : Vec Ideal S16x8192 .bf16) (r : Fin 8) (l : Fin 128) :
    k0_pay6 (F := Ideal) s (ix2 r l) = k0_pay5 (F := Ideal) s (ix2 r l) * Cert.Scale.inv57344 := by
  unfold k0_pay6
  exact mul_at _ r l

theorem bisect_at (s : Vec Ideal S16x8192 .bf16) (r : Fin 8) (l : Fin 128) :
    endV (k0_pay6 (F := Ideal) s) (k0_pay7 (F := Ideal) s) (ix2 r l) = Cert.Scale.bisect (k0_pay5 (F := Ideal) s (ix2 r l) * Cert.Scale.inv57344) := by
  rw [pay7_eq]
  unfold endV
  simp only [stepV_at]
  rw [pay6_at]
  rfl

/-- The scale tile, of the whole maximum. -/
theorem scaleTile_at (s : Vec Ideal S16x8192 .bf16) (r : Fin 8) (l : Fin 128) (M : EReal) (h : k0_pay5 (F := Ideal) s (ix2 r l) = M) :
    scaleTile (F := Ideal) s (ix2 r l) = Cert.Scale.up (Cert.Scale.pick M (Cert.Scale.bisect (M * Cert.Scale.inv57344))) := by
  unfold scaleTile
  rw [pay9_at, pickV_at, bisect_at, h]

/-- The inverse tile, of the whole maximum. -/
theorem invTile_at (s : Vec Ideal S16x8192 .bf16) (r : Fin 8) (l : Fin 128) (M : EReal) (h : k0_pay5 (F := Ideal) s (ix2 r l) = M) :
    invTile (F := Ideal) s (ix2 r l) = Cert.Scale.down (Cert.Scale.pick M (Cert.Scale.bisect (M * Cert.Scale.inv57344))) := by
  unfold invTile
  rw [pay4_at, pickV_at, bisect_at, h]

end Cert.KernelIdeal.Run

end
-- ==== Proof.KernelIdeal.Max.lean ====
module

public import proofs.«01_k».proof.Proof.KernelIdeal.Value
public import proofs.«01_k».proof.Proof.Scale
public import Idealize.ShloMosaic.Lib.Pointwise

/-! The running maximum, over the extended reals. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

/-- The magnitude of an extended real. -/
def mag (x : EReal) : EReal := max x (-x)

/-- One block's maximum per row class and lane. -/
theorem pay1_at (v : Vec Ideal S512x8192 .bf16) (r : Fin 16) (l : Fin 8192) :
    k0_pay1 (F := Ideal) v (ix2 r l) = Finset.fold max (Ideal.ofBits .bf16 0xFF80#16)
      (fun x : Fin 32 => mag (v (ix2 ⟨x.val * 16 + r.val, by omega⟩ l))) Finset.univ := by
  pointwise [k0_pay1]
  rfl

theorem pay2_at (v : Vec Ideal S512x8192 .bf16) (r : Fin 16) (l : Fin 8192) :
    k0_pay2 (F := Ideal) v (ix2 r l) = k0_pay1 (F := Ideal) v (ix2 r l) := by
  unfold k0_pay2
  generalize k0_pay1 (F := Ideal) v = w
  pointwise []

theorem pay3_at (v : Vec Ideal S512x8192 .bf16) (s : Vec Ideal S16x8192 .bf16) (r : Fin 16) (l : Fin 8192) :
    k0_pay3 (F := Ideal) v s (ix2 r l) = max (s (ix2 r l)) (k0_pay1 (F := Ideal) v (ix2 r l)) := by
  unfold k0_pay3
  generalize k0_pay1 (F := Ideal) v = w
  pointwise []

theorem pay5_at (s : Vec Ideal S16x8192 .bf16) (r : Fin 8) (l : Fin 128) :
    k0_pay5 (F := Ideal) s (ix2 r l) = Finset.fold max (Ideal.ofBits .f32 0xFF800000#32)
      (fun x : Fin 16 × Fin 8192 => s (ix2 x.1 x.2)) Finset.univ := by
  pointwise [k0_pay5]

theorem bot_bf16 : Ideal.ofBits .bf16 0xFF80#16 = ⊥ := by simp [Ideal.ofBits, Ideal.ieee]

/-- A block's maximum is under a bound when the block's rows are. -/
theorem block_le (g : S6144x8192.Idx → EReal) (v : Vec Ideal S512x8192 .bf16) (t : ℕ) (ht : t < 12)
    (hg : ∀ (r : Fin 512) (l : Fin 8192), v (ix2 r l) = g (ix2 ⟨512 * t + r.val, by omega⟩ l)) (r : Fin 16) (l : Fin 8192) (B : EReal) :
    k0_pay1 (F := Ideal) v (ix2 r l) ≤ B
      ↔ ∀ k : Fin 6144, 512 * t ≤ k.val → k.val < 512 * (t + 1) → k.val % 16 = r.val → mag (g (ix2 k l)) ≤ B := by
  rw [pay1_at, Finset.fold_max_le, bot_bf16]
  constructor
  · rintro ⟨-, h⟩ k h1 h2 h3
    have := h ⟨(k.val - 512 * t) / 16, by omega⟩ (Finset.mem_univ _)
    rw [hg] at this
    have e : (⟨512 * t + (⟨((k.val - 512 * t) / 16) * 16 + r.val, by omega⟩ : Fin 512).val, by dsimp only; omega⟩ : Fin 6144) = k :=
      Fin.ext (by dsimp only; omega)
    dsimp only at this e
    rwa [e] at this
  · intro h
    refine ⟨bot_le, fun x _ => ?_⟩
    rw [hg]
    exact h _ (by dsimp only; omega) (by dsimp only; omega) (by dsimp only; omega)

/-- The running maximum is under a bound when every row so far is. -/
theorem runMax_le (c : Dev nD) (g : S6144x8192.Idx → EReal) (hg : V c main_v1 = g) (r : Fin 16) (l : Fin 8192) (B : EReal) :
    ∀ (n : ℕ) (h : n < cfg0.N), runMax V c n h (ix2 r l) ≤ B
      ↔ ∀ k : Fin 6144, k.val < 512 * (n + 1) → k.val % 16 = r.val → mag (g (ix2 k l)) ≤ B
  | 0, h => by
    show k0_pay2 (F := Ideal) (iblk0 V c 0 ⟨0, h⟩) (ix2 r l) ≤ B ↔ _
    rw [pay2_at, block_le g _ 0 (by omega) (fun r' l' => (blk0_0 V c ⟨0, h⟩ r' l' (by dsimp only; omega)).trans (by rw [hg]))]
    exact ⟨fun h k h1 h2 => h k (by omega) h1 h2, fun h k _ h1 h2 => h k h1 h2⟩
  | n + 1, h => by
    have hN : n + 1 < 12 := lt_of_lt_of_eq h (show cfg0.N = 12 from N_0)
    show k0_pay3 (F := Ideal) (iblk0 V c 0 ⟨n + 1, h⟩) (runMax V c n (Nat.lt_of_succ_lt h)) (ix2 r l) ≤ B ↔ _
    rw [pay3_at, max_le_iff, runMax_le c g hg r l B n (Nat.lt_of_succ_lt h),
      block_le g _ (n + 1) hN (fun r' l' => (blk0_0 V c ⟨n + 1, h⟩ r' l' (by dsimp only; omega)).trans (by rw [hg]))]
    constructor
    · rintro ⟨h1, h2⟩ k hk hr
      by_cases hc : k.val < 512 * (n + 1)
      · exact h1 k hc hr
      · exact h2 k (by omega) hk hr
    · exact fun h => ⟨fun k hk hr => h k (by omega) hr, fun k _ hk hr => h k hk hr⟩

/-- A maximum over pairs is under a bound when every member is. -/
theorem fold_pairs_le {α β : Type} [Fintype α] [Fintype β] (f : α × β → EReal) (B : EReal) :
    Finset.fold max ⊥ f Finset.univ ≤ B ↔ ∀ (a : α) (b : β), f (a, b) ≤ B := by
  rw [Finset.fold_max_le]
  exact ⟨fun h a b => h.2 (a, b) (Finset.mem_univ _), fun h => ⟨bot_le, fun x _ => h x.1 x.2⟩⟩

/-- The largest magnitude of an array. -/
def maxAbs (g : S6144x8192.Idx → EReal) : EReal :=
  Finset.fold max (Ideal.ofBits .f32 0xFF800000#32) (fun x : Fin 6144 × Fin 8192 => mag (g (ix2 x.1 x.2))) Finset.univ

theorem bot_f32 : Ideal.ofBits .f32 0xFF800000#32 = ⊥ := Cert.Scale.ieee_bot _ (by decide) (by decide) (by decide)

theorem maxAbs_le (g : S6144x8192.Idx → EReal) (B : EReal) : maxAbs g ≤ B ↔ ∀ (k : Fin 6144) (l : Fin 8192), mag (g (ix2 k l)) ≤ B := by
  unfold maxAbs
  rw [bot_f32, fold_pairs_le]

/-- What the last point reduces the carried maximum to is the largest magnitude of the whole array. -/
theorem total_eq (c : Dev nD) (g : S6144x8192.Idx → EReal) (hg : V c main_v1 = g) (r : Fin 8) (l : Fin 128) :
    k0_pay5 (F := Ideal) (total V c) (ix2 r l) = maxAbs g := by
  refine eq_of_forall_ge_iff fun B => ?_
  rw [maxAbs_le, pay5_at, bot_f32, fold_pairs_le]
  constructor
  · exact fun h k l => (runMax_le V c g hg ⟨k.val % 16, by omega⟩ l B 11 h11).mp (h ⟨k.val % 16, by omega⟩ l) k (by omega) rfl
  · exact fun h r' l' => (runMax_le V c g hg r' l' B 11 h11).mpr fun k _ _ => h k l'

end Cert.KernelIdeal.Run

end
-- ==== Proof.ReferenceIdeal.Value.lean ====
module

public import proofs.«01_k».proof.Proof.Gen.ReferenceIdeal.Frame
public import Idealize.ShloMosaic.Lib.Pipeline.Value
public import Idealize.ShloMosaic.Lib.StableHlo.Run

/-! The reference's results after its run, as terms of the arguments. -/

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

variable (m : (ℓ : Loc nD τ sig) → Buf (Elt F) ℓ) (ρ : Dev nD → PrngReg)

theorem hz : (![0, 0] : Fin 2 → Nat) = fun _ => 0 := funext fun a => by fin_cases a <;> rfl

/-- The gradient as the body reads it: the argument with its two leading axes joined. -/
def dyIn (c : Dev nD) : Vec F S6144x8192 .bf16 :=
  shapeCast S6144x8192 (m ((c : Thread nD τ).loc main_arg2) : Vec F S3x2048x8192 .bf16) shapeCasts_S3x2048x8192_S6144x8192
/-- The activations' codes as the body reads them. -/
def xIn (c : Dev nD) : Vec F S6144x2048 .fp8e4m3 :=
  shapeCast S6144x2048 (m ((c : Thread nD τ).loc main_arg0) : Vec F S3x2048x2048 .fp8e4m3) shapeCasts_S3x2048x2048_S6144x2048
/-- Their scale as the body reads it. -/
def xsIn (c : Dev nD) : Vec F S1x1 .f32 :=
  shapeCast S1x1 (m ((c : Thread nD τ).loc main_arg1) : Vec F S_ .f32) shapeCasts_S_S1x1
/-- The running sum the product is added to. -/
def accIn (c : Dev nD) : Vec F S2048x8192 .f32 := m ((c : Thread nD τ).loc main_arg3)

theorem V_v0 (c : Dev nD) : V m c main_v0 = (xIn m c : Buf (Elt F) ((c : Thread nD τ).loc main_v0)) := by
  show StableHlo.after hostOps0 (fun b => m (c, b)) (Proc.devRef .tc main_v0) = _
  after_results
  rfl
theorem V_v1 (c : Dev nD) : V m c main_v1 = (xsIn m c : Buf (Elt F) ((c : Thread nD τ).loc main_v1)) := by
  show StableHlo.after hostOps0 (fun b => m (c, b)) (Proc.devRef .tc main_v1) = _
  after_results
  rfl
theorem V_v2 (c : Dev nD) : V m c main_v2 = (dyIn m c : Buf (Elt F) ((c : Thread nD τ).loc main_v2)) := by
  show StableHlo.after hostOps0 (fun b => m (c, b)) (Proc.devRef .tc main_v2) = _
  after_results
  rfl

theorem blk_0 (c : Dev nD) : (iblk m c 0 t0_0 : Vec F S6144x2048 .fp8e4m3) = xIn m c := by
  have hz' : (fun a => win0_0.index t0_0 a * main_v0.ty.shape.size a) = fun _ => 0 := funext fun a => by fin_cases a <;> decide
  exact (Memref.read_access_unit_zero (Elt F) main_v0 hz' (fun a => by rw [congrFun hz' a]; simp) (V m c main_v0)).trans (V_v0 m c)
theorem blk_1 (c : Dev nD) : (iblk m c 1 t0_0 : Vec F S1x1 .f32) = xsIn m c := by
  have hz' : (fun a => win0_1.index t0_0 a * main_v1.ty.shape.size a) = fun _ => 0 := funext fun a => by fin_cases a <;> decide
  exact (Memref.read_access_unit_zero (Elt F) main_v1 hz' (fun a => by rw [congrFun hz' a]; simp) (V m c main_v1)).trans (V_v1 m c)
theorem blk_2 (c : Dev nD) : (iblk m c 2 t0_0 : Vec F S6144x8192 .bf16) = dyIn m c := by
  have hz' : (fun a => win0_2.index t0_0 a * main_v2.ty.shape.size a) = fun _ => 0 := funext fun a => by fin_cases a <;> decide
  exact (Memref.read_access_unit_zero (Elt F) main_v2 hz' (fun a => by rw [congrFun hz' a]; simp) (V m c main_v2)).trans (V_v2 m c)
theorem blk_3 (c : Dev nD) : (iblk m c 3 t0_0 : Vec F S2048x8192 .f32) = accIn m c := by
  have hz' : (fun a => win0_3.index t0_0 a * main_arg3.ty.shape.size a) = fun _ => 0 := funext fun a => by fin_cases a <;> decide
  exact (Memref.read_access_unit_zero (Elt F) main_arg3 hz' (fun a => by rw [congrFun hz' a]; simp) (V m c main_arg3)).trans (V_main_arg3 m c)

/-- The scale, of the gradient. -/
def scB (c : Dev nD) : Vec F S1x1 .f32 := k0_pay4 (dyIn m c)
/-- The codes, of the gradient. -/
def codesB (c : Dev nD) : Vec F S6144x8192 .fp8e5m2 := k0_pay5 (dyIn m c)
/-- The gradient result, of all four arguments. -/
def dwB (c : Dev nD) : Vec F S2048x8192 .f32 := k0_pay1 (scB m c) (k0_pay6 (dyIn m c) (xIn m c)) (accIn m c) (xsIn m c)

theorem out_4 (c : Dev nD) : out0_4 (iblk m c 0 t0_0) (iblk m c 1 t0_0) (iblk m c 2 t0_0) (iblk m c 3 t0_0) = dwB m c := by
  unfold out0_4 k0_pay7
  rw [View.canon_unit_zero hz, View.ld_unit_zero (S := S6144x8192) hz, View.ld_unit_zero (S := S6144x2048) hz,
    View.ld_unit_zero (S := S2048x8192) hz, View.ld_unit_zero (S := S1x1) hz]
  rw [blk_0, blk_1, blk_2, blk_3]
  rfl
theorem out_5 (c : Dev nD) : out0_5 (iblk m c 0 t0_0) (iblk m c 1 t0_0) (iblk m c 2 t0_0) (iblk m c 3 t0_0) = codesB m c := by
  unfold out0_5
  rw [View.canon_unit_zero hz, View.ld_unit_zero (S := S6144x8192) hz, blk_2]
  rfl
theorem out_6 (c : Dev nD) : out0_6 (iblk m c 0 t0_0) (iblk m c 1 t0_0) (iblk m c 2 t0_0) (iblk m c 3 t0_0) = scB m c := by
  unfold out0_6 k0_pay7
  rw [View.canon_unit_zero hz, View.ld_unit_zero (S := S6144x8192) hz, blk_2]
  rfl

theorem flushed_4 (c : Dev nD) (t : Fin cfg0.N) (hf : (cfg0.win 4).flush t = true) :
    (dats m 0 c).flushed 4 t = ((cfg0.win 4).blk t).view.read (Elt F) (dwB m c : Buf (Elt F) ((c : Thread nD τ).loc main_v3_0)) := by
  obtain rfl := fin_N0 t
  show (cfg0.win 4).cut (grid0.coords t0_0) ((dats m 0 c).after 4 t0_0) = _
  rw [after0_4, out_4]
  have hz' : (fun a => win0_4.index t0_0 a * main_v3_0.ty.shape.size a) = fun _ => 0 := funext fun a => by fin_cases a <;> decide
  exact (Memref.read_access_unit_zero (Elt F) main_v3_0 hz' (fun a => by rw [congrFun hz' a]; simp) (dwB m c)).symm

theorem final_4 (c : Dev nD) : (dats m 0 c).arrAt 4 cfg0.N = (dwB m c : Buf (Elt F) ((c : Thread nD τ).loc main_v3_0)) :=
  (dats m 0 c).arrAt_eq_of_cover 4 (dwB m c : Buf (Elt F) ((c : Thread nD τ).loc main_v3_0)) (flushed_4 m c) fun i =>
    ⟨t0_0, flush0_4 t0_0, by
      show i ∈ ((View.whole main_v3_0).slice (win0_4.rect t0_0)).set
      rw [View.set_slice_whole, Rect.mem_set_unit]
      intro a
      have h0 : (i 0 : Nat) < 2048 := (i 0).isLt
      have h1 : (i 1 : Nat) < 8192 := (i 1).isLt
      match a with
      | ⟨0, _⟩ => show win0_4.index t0_0 0 * 2048 ≤ (i 0 : Nat) ∧ (i 0 : Nat) < win0_4.index t0_0 0 * 2048 + 2048
                  rw [show win0_4.index t0_0 0 = 0 from by decide +kernel]; omega
      | ⟨1, _⟩ => show win0_4.index t0_0 1 * 8192 ≤ (i 1 : Nat) ∧ (i 1 : Nat) < win0_4.index t0_0 1 * 8192 + 8192
                  rw [show win0_4.index t0_0 1 = 0 from by decide +kernel]; omega⟩

theorem flushed_5 (c : Dev nD) (t : Fin cfg0.N) (hf : (cfg0.win 5).flush t = true) :
    (dats m 0 c).flushed 5 t = ((cfg0.win 5).blk t).view.read (Elt F) (codesB m c : Buf (Elt F) ((c : Thread nD τ).loc main_v3_1)) := by
  obtain rfl := fin_N0 t
  show (cfg0.win 5).cut (grid0.coords t0_0) ((dats m 0 c).after 5 t0_0) = _
  rw [after0_5, out_5]
  have hz' : (fun a => win0_5.index t0_0 a * main_v3_1.ty.shape.size a) = fun _ => 0 := funext fun a => by fin_cases a <;> decide
  exact (Memref.read_access_unit_zero (Elt F) main_v3_1 hz' (fun a => by rw [congrFun hz' a]; simp) (codesB m c)).symm

theorem final_5 (c : Dev nD) : (dats m 0 c).arrAt 5 cfg0.N = (codesB m c : Buf (Elt F) ((c : Thread nD τ).loc main_v3_1)) :=
  (dats m 0 c).arrAt_eq_of_cover 5 (codesB m c : Buf (Elt F) ((c : Thread nD τ).loc main_v3_1)) (flushed_5 m c) fun i =>
    ⟨t0_0, flush0_5 t0_0, by
      show i ∈ ((View.whole main_v3_1).slice (win0_5.rect t0_0)).set
      rw [View.set_slice_whole, Rect.mem_set_unit]
      intro a
      have h0 : (i 0 : Nat) < 6144 := (i 0).isLt
      have h1 : (i 1 : Nat) < 8192 := (i 1).isLt
      match a with
      | ⟨0, _⟩ => show win0_5.index t0_0 0 * 6144 ≤ (i 0 : Nat) ∧ (i 0 : Nat) < win0_5.index t0_0 0 * 6144 + 6144
                  rw [show win0_5.index t0_0 0 = 0 from by decide +kernel]; omega
      | ⟨1, _⟩ => show win0_5.index t0_0 1 * 8192 ≤ (i 1 : Nat) ∧ (i 1 : Nat) < win0_5.index t0_0 1 * 8192 + 8192
                  rw [show win0_5.index t0_0 1 = 0 from by decide +kernel]; omega⟩

theorem flushed_6 (c : Dev nD) (t : Fin cfg0.N) (hf : (cfg0.win 6).flush t = true) :
    (dats m 0 c).flushed 6 t = ((cfg0.win 6).blk t).view.read (Elt F) (scB m c : Buf (Elt F) ((c : Thread nD τ).loc main_v3_2)) := by
  obtain rfl := fin_N0 t
  show (cfg0.win 6).cut (grid0.coords t0_0) ((dats m 0 c).after 6 t0_0) = _
  rw [after0_6, out_6]
  have hz' : (fun a => win0_6.index t0_0 a * main_v3_2.ty.shape.size a) = fun _ => 0 := funext fun a => by fin_cases a <;> decide
  exact (Memref.read_access_unit_zero (Elt F) main_v3_2 hz' (fun a => by rw [congrFun hz' a]; simp) (scB m c)).symm

theorem final_6 (c : Dev nD) : (dats m 0 c).arrAt 6 cfg0.N = (scB m c : Buf (Elt F) ((c : Thread nD τ).loc main_v3_2)) :=
  (dats m 0 c).arrAt_eq_of_cover 6 (scB m c : Buf (Elt F) ((c : Thread nD τ).loc main_v3_2)) (flushed_6 m c) fun i =>
    ⟨t0_0, flush0_6 t0_0, by
      show i ∈ ((View.whole main_v3_2).slice (win0_6.rect t0_0)).set
      rw [View.set_slice_whole, Rect.mem_set_unit]
      intro a
      have h0 : (i 0 : Nat) < 1 := (i 0).isLt
      have h1 : (i 1 : Nat) < 1 := (i 1).isLt
      match a with
      | ⟨0, _⟩ => show win0_6.index t0_0 0 * 1 ≤ (i 0 : Nat) ∧ (i 0 : Nat) < win0_6.index t0_0 0 * 1 + 1
                  rw [show win0_6.index t0_0 0 = 0 from by decide +kernel]; omega
      | ⟨1, _⟩ => show win0_6.index t0_0 1 * 1 ≤ (i 1 : Nat) ∧ (i 1 : Nat) < win0_6.index t0_0 1 * 1 + 1
                  rw [show win0_6.index t0_0 1 = 0 from by decide +kernel]; omega⟩

/-- The codes result, its leading axis split again. -/
def codesRes (c : Dev nD) : Vec F S3x2048x8192 .fp8e5m2 := shapeCast S3x2048x8192 (codesB m c) shapeCasts_S6144x8192_S3x2048x8192
/-- The scale result, a scalar. -/
def scaleRes (c : Dev nD) : Vec F S_ .f32 := shapeCast S_ (scB m c) shapeCasts_S1x1_S_

theorem tail_v4 (c : Dev nD) : Pipeline.afterTail₀ cfgs (dats m) 0 (V0 m) [hostOps1] c main_v4
    = (codesRes m c : Buf (Elt F) ((c : Thread nD τ).loc main_v4)) := by
  show StableHlo.after hostOps1 (Pipeline.withArrays spec0 c (V0 m c) fun w => (dats m 0 c).arrAt w cfg0.N) (Proc.devRef .tc main_v4) = _
  after_results
  rw [(Pipeline.withArrays_arr spec0 launch0.win.arr_inj c (V0 m c) (fun w => (dats m 0 c).arrAt w cfg0.N) 5).trans (final_5 m c)]
  rfl
theorem tail_v5 (c : Dev nD) : Pipeline.afterTail₀ cfgs (dats m) 0 (V0 m) [hostOps1] c main_v5
    = (scaleRes m c : Buf (Elt F) ((c : Thread nD τ).loc main_v5)) := by
  show StableHlo.after hostOps1 (Pipeline.withArrays spec0 c (V0 m c) fun w => (dats m 0 c).arrAt w cfg0.N) (Proc.devRef .tc main_v5) = _
  after_results
  rw [(Pipeline.withArrays_arr spec0 launch0.win.arr_inj c (V0 m c) (fun w => (dats m 0 c).arrAt w cfg0.N) 6).trans (final_6 m c)]
  rfl

/-- The run, read: the three results at their terms, the arguments unchanged. -/
theorem run_values : θ_run defs (onTc (τ := τ) (main (F := F))) ⟨m, fun _ => 0, ρ⟩ (fun r => ∀ c : Dev nD,
      r.2.mem ((c.tc : Thread nD τ).loc main_v3_0) = (dwB m c : Buf (Elt F) ((c : Thread nD τ).loc main_v3_0))
      ∧ r.2.mem ((c.tc : Thread nD τ).loc main_v4) = (codesRes m c : Buf (Elt F) ((c : Thread nD τ).loc main_v4))
      ∧ r.2.mem ((c.tc : Thread nD τ).loc main_v5) = (scaleRes m c : Buf (Elt F) ((c : Thread nD τ).loc main_v5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨((h c).1 4).trans (final_4 m c),
      ((h c).2 main_v4 (Pipeline.mem_restRefs_of main_v4 (by decide) (by decide))).trans (tail_v4 m c),
      ((h c).2 main_v5 (Pipeline.mem_restRefs_of main_v5 (by decide) (by decide))).trans (tail_v5 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c)))⟩) (run_main m ρ)

end Cert.ReferenceIdeal.Run

end
-- ==== Proof.ReferenceIdeal.Scale.lean ====
module

public import proofs.«01_k».proof.Proof.ReferenceIdeal.Value
public import proofs.«01_k».proof.Proof.Scale
public import Idealize.ShloMosaic.Lib.Pointwise

/-! The reference's functions at an index, over the extended reals. -/

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The exponent, of the largest magnitude. -/
theorem pay3_at (v : Vec Ideal S6144x8192 .bf16) (r l : Fin 1) :
    k0_pay3 (F := Ideal) v (ix2 r l) = Cert.Scale.expo (Finset.fold max (Ideal.ofBits .f32 0xFF800000#32)
      (fun x : Fin 6144 × Fin 8192 => max (v (ix2 x.1 x.2) : EReal) (-(v (ix2 x.1 x.2) : EReal))) Finset.univ) := by
  pointwise [k0_pay3, k0_pay2]
  rfl

theorem exp2_at (e : FVec Ideal S1x1 .f32) (i : S1x1.Idx) (M : EReal) (h : e i = M) : exp2 e i = Ideal.exp2 M := by
  subst h; rfl

/-- The scale. -/
theorem pay4_at (v : Vec Ideal S6144x8192 .bf16) (r l : Fin 1) (M : EReal) (h : k0_pay3 (F := Ideal) v (ix2 r l) = M) :
    k0_pay4 (F := Ideal) v (ix2 r l) = Ideal.exp2 M := exp2_at (k0_pay3 (F := Ideal) v) (ix2 r l) M h

/-- The codes, of the widened gradient and the exponent. -/
def codesV (d : FVec Ideal S6144x8192 .f32) (e : FVec Ideal S1x1 .f32) : FVec Ideal S6144x8192 .fp8e5m2 :=
  truncf .fp8e5m2 (minimumf (broadcast S6144x8192 (Scalar.ofBits (F := Ideal) .f32 0x47600000#32))
    (maximumf (broadcast S6144x8192 (Scalar.ofBits (F := Ideal) .f32 0xC7600000#32))
      (mulf d (broadcastTo S6144x8192 (exp2 (subf (broadcast S1x1 (Scalar.ofBits (F := Ideal) .f32 0x00000000#32)) e)) broadcasts_S1x1_S6144x8192)))) bitsLt_fp8e5m2_f32

theorem codesV_at (d : FVec Ideal S6144x8192 .f32) (e : FVec Ideal S1x1 .f32) (k : Fin 6144) (l : Fin 8192) :
    codesV d e (ix2 k l) = min (Ideal.ofBits .f32 0x47600000#32) (max (Ideal.ofBits .f32 0xC7600000#32) (d (ix2 k l) * Ideal.exp2 (0 - e (ix2 0 0)))) := by
  pointwise [codesV]
  rfl

theorem pay5_eq (v : Vec Ideal S6144x8192 .bf16) : k0_pay5 (F := Ideal) v = codesV (k0_pay2 (F := Ideal) v) (k0_pay3 (F := Ideal) v) := by
  unfold k0_pay5 codesV
  rfl

theorem pay2_at (v : Vec Ideal S6144x8192 .bf16) (k : Fin 6144) (l : Fin 8192) : k0_pay2 (F := Ideal) v (ix2 k l) = v (ix2 k l) := by
  pointwise [k0_pay2]

/-- The codes. -/
theorem pay5_at (v : Vec Ideal S6144x8192 .bf16) (k : Fin 6144) (l : Fin 8192) (M : EReal) (h : k0_pay3 (F := Ideal) v (ix2 0 0) = M) :
    k0_pay5 (F := Ideal) v (ix2 k l) = min (Ideal.ofBits .f32 0x47600000#32) (max (Ideal.ofBits .f32 0xC7600000#32) (v (ix2 k l) * Ideal.exp2 (0 - M))) := by
  rw [pay5_eq, codesV_at, h, pay2_at]

/-- The product, of the codes. -/
def prodV (w : Vec Ideal S6144x2048 .fp8e4m3) (q : FVec Ideal S6144x8192 .fp8e5m2) : FVec Ideal S2048x8192 .f32 :=
  have w' : FVec Ideal S6144x2048 .fp8e4m3 := shapeCast S6144x2048 w shapeCasts_S6144x2048_S6144x2048
  matmul dot_S6144x2048_S6144x8192_S2048x8192_0_0_1_1_n_n none w' q (constant (F := Ideal) S2048x8192 .f32 0x00000000#32)

theorem prodV_at (w : Vec Ideal S6144x2048 .fp8e4m3) (q : FVec Ideal S6144x8192 .fp8e5m2) (r : Fin 2048) (l : Fin 8192) :
    prodV w q (ix2 r l) = ∑ k : Fin 6144, w (ix2 k r) * q (ix2 k l) := by
  pointwise [prodV]

theorem pay6_eq (v : Vec Ideal S6144x8192 .bf16) (w : Vec Ideal S6144x2048 .fp8e4m3) : k0_pay6 (F := Ideal) v w = prodV w (k0_pay5 (F := Ideal) v) := by
  unfold k0_pay6 prodV
  rfl

/-- The product. -/
theorem pay6_at (v : Vec Ideal S6144x8192 .bf16) (w : Vec Ideal S6144x2048 .fp8e4m3) (r : Fin 2048) (l : Fin 8192) :
    k0_pay6 (F := Ideal) v w (ix2 r l) = ∑ k : Fin 6144, w (ix2 k r) * k0_pay5 (F := Ideal) v (ix2 k l) := by
  rw [pay6_eq, prodV_at]

/-- The sum. -/
theorem pay1_at (a : FVec Ideal S1x1 .f32) (p : FVec Ideal S2048x8192 .f32) (acc : Vec Ideal S2048x8192 .f32) (xs : Vec Ideal S1x1 .f32) (r : Fin 2048) (l : Fin 8192) :
    k0_pay1 (F := Ideal) a p acc xs (ix2 r l) = acc (ix2 r l) + p (ix2 r l) * (xs (ix2 0 0) * a (ix2 0 0)) := by
  pointwise [k0_pay1]

end Cert.ReferenceIdeal.Run

end
-- ==== Proof.Agree.lean ====
module

public import proofs.«01_k».proof.Defs
public import proofs.«01_k».proof.Proof.KernelIdeal.Tile
public import proofs.«01_k».proof.Proof.KernelIdeal.Max
public import proofs.«01_k».proof.Proof.ReferenceIdeal.Scale
public import proofs.«01_k».proof.Proof.Gen.Pre_finite

/-! The two programs' results are the same, of equal arguments whose gradient is finite. -/

@[expose] public section

set_option maxRecDepth 16384

noncomputable section

namespace Cert.Agree

open Idealize.ShloMosaic Idealize.ShloMosaic.TcCoe Idealize.ShloMosaic.Tactic
open Cert.KernelIdeal.Run (mag maxAbs maxAbs_le clip codesOf dwOf scT ivT)

theorem mag_nonneg (x : EReal) : 0 ≤ mag x := by
  unfold mag
  rcases le_total 0 x with h | h
  · exact le_max_of_le_left h
  · exact le_max_of_le_right (by rwa [EReal.neg_nonneg])

/-- A finite array's largest magnitude is a real under the bound. -/
theorem maxAbs_real (g : Cert.KernelIdeal.S6144x8192.Idx → EReal) (h : ∀ (k : Fin 6144) (l : Fin 8192), mag (g (ix2 k l)) ≤ Ideal.ofBits .f32 0x7F7F0000#32) :
    ∃ M : ℝ, maxAbs g = (M : EReal) ∧ 0 ≤ M ∧ M < (2 : ℝ) ^ (128 : ℤ) := by
  have h1 : maxAbs g < (((2 : ℝ) ^ (128 : ℤ) : ℝ) : EReal) := lt_of_le_of_lt ((maxAbs_le g _).mpr h) Cert.Scale.big_real
  have h0 : 0 ≤ maxAbs g := le_trans (mag_nonneg _) ((maxAbs_le g _).mp le_rfl 0 0)
  have e : maxAbs g = ((maxAbs g).toReal : EReal) :=
    (EReal.coe_toReal (ne_top_of_lt h1) (ne_of_gt (lt_of_lt_of_le (EReal.bot_lt_zero) h0))).symm
  refine ⟨_, e, EReal.toReal_nonneg h0, ?_⟩
  rw [e] at h1
  exact EReal.coe_lt_coe_iff.mp h1

section
variable (m : (ℓ : Loc Cert.KernelIdeal.nD Cert.KernelIdeal.τ Cert.KernelIdeal.sig) → Buf (Elt Ideal) ℓ) (ρ : Dev Cert.KernelIdeal.nD → PrngReg)

/-- The precondition at an element. -/
theorem finite_at (h : Cert.Pre_KernelIdeal_finite (hPre_finite := Cert.Pre_finite.Gen.facts) m) (c : Dev Cert.KernelIdeal.nD) (i : Cert.KernelIdeal.S6144x8192.Idx) :
    mag (Cert.KernelIdeal.Run.dyIn m c i) ≤ Ideal.ofBits .f32 0x7F7F0000#32 := by
  have hb : ∀ j : Cert.KernelIdeal.S3x2048x8192.Idx, mag ((m ((c.tc : Thread Cert.KernelIdeal.nD Cert.KernelIdeal.τ).loc Cert.KernelIdeal.main_arg2) : Cert.KernelIdeal.S3x2048x8192.Idx → EReal) j)
      ≤ Ideal.ofBits .f32 0x7F7F0000#32 := fun j => by
    have k : BitVec.ofBool (decide (mag ((m ((c.tc : Thread Cert.KernelIdeal.nD Cert.KernelIdeal.τ).loc Cert.KernelIdeal.main_arg2) : Cert.KernelIdeal.S3x2048x8192.Idx → EReal) j)
      ≤ Ideal.ofBits .f32 0x7F7F0000#32)) = 1#1 := congrFun (h c) j
    by_contra hc
    rw [decide_eq_false hc] at k
    exact absurd k (by decide)
  exact hb _

/-- The scale tile and the inverse tile hold the reference's powers. -/
theorem tiles (h : Cert.Pre_KernelIdeal_finite (hPre_finite := Cert.Pre_finite.Gen.facts) m) (c : Dev Cert.KernelIdeal.nD) :
    scT m ρ c (ix2 0 0) = Ideal.exp2 (Cert.Scale.expo (maxAbs (Cert.KernelIdeal.Run.dyIn m c)))
      ∧ ivT m ρ c (ix2 0 0) = Ideal.exp2 (0 - Cert.Scale.expo (maxAbs (Cert.KernelIdeal.Run.dyIn m c))) := by
  obtain ⟨M, e, h0, h1⟩ := maxAbs_real (Cert.KernelIdeal.Run.dyIn m c) (fun k l => finite_at m h c _)
  have t := Cert.KernelIdeal.Run.total_eq (Cert.KernelIdeal.Run.V1 m ρ) c (Cert.KernelIdeal.Run.dyIn m c) (Cert.KernelIdeal.Run.V1_v1 m ρ c) 0 0
  have a := Cert.Scale.agree M h0 h1
  rw [← e] at a
  exact ⟨(Cert.KernelIdeal.Run.scaleTile_at _ 0 0 _ t).trans a.1, (Cert.KernelIdeal.Run.invTile_at _ 0 0 _ t).trans a.2⟩

variable (m' : (ℓ : Loc Cert.ReferenceIdeal.nD Cert.ReferenceIdeal.τ Cert.ReferenceIdeal.sig) → Buf (Elt Ideal) ℓ)

/-- Equal arguments. -/
def Same : Prop := ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)

theorem dy_same (hs : Same m m') (c : Dev Cert.KernelIdeal.nD) : (Cert.ReferenceIdeal.Run.dyIn m' c : Cert.KernelIdeal.S6144x8192.Idx → EReal) = Cert.KernelIdeal.Run.dyIn m c := by
  unfold Cert.ReferenceIdeal.Run.dyIn Cert.KernelIdeal.Run.dyIn
  exact congrArg (fun v : Vec Ideal Cert.KernelIdeal.S3x2048x8192 .bf16 => shapeCast Cert.KernelIdeal.S6144x8192 v Cert.ReferenceIdeal.Gen.facts.shapeCasts_S3x2048x8192_S6144x8192) (hs c).2.2.1

theorem x_same (hs : Same m m') (c : Dev Cert.KernelIdeal.nD) : (Cert.ReferenceIdeal.Run.xIn m' c : Cert.KernelIdeal.S6144x2048.Idx → EReal) = Cert.KernelIdeal.Run.xIn m c := by
  unfold Cert.ReferenceIdeal.Run.xIn Cert.KernelIdeal.Run.xIn
  exact congrArg (fun v : Vec Ideal Cert.KernelIdeal.S3x2048x2048 .fp8e4m3 => shapeCast Cert.KernelIdeal.S6144x2048 v Cert.ReferenceIdeal.Gen.facts.shapeCasts_S3x2048x2048_S6144x2048) (hs c).1

theorem acc_same (hs : Same m m') (c : Dev Cert.KernelIdeal.nD) : (Cert.ReferenceIdeal.Run.accIn m' c : Cert.KernelIdeal.S2048x8192.Idx → EReal) = Cert.KernelIdeal.Run.accIn m c :=
  (hs c).2.2.2

/-- The scalar, in either shape. -/
theorem xs_same (hs : Same m m') (c : Dev Cert.KernelIdeal.nD) :
    (Cert.ReferenceIdeal.Run.xsIn m' c : Cert.ReferenceIdeal.S1x1.Idx → EReal) (ix2 0 0) = Cert.KernelIdeal.Run.xsIn m c Cert.KernelIdeal.Run.one0 := by
  unfold Cert.ReferenceIdeal.Run.xsIn Cert.KernelIdeal.Run.xsIn
  rw [(hs c).2.1]
  show (m ((c.tc : Thread Cert.KernelIdeal.nD Cert.KernelIdeal.τ).loc Cert.KernelIdeal.main_arg1) : Cert.KernelIdeal.S_.Idx → EReal) _ = (m ((c.tc : Thread Cert.KernelIdeal.nD Cert.KernelIdeal.τ).loc Cert.KernelIdeal.main_arg1) : Cert.KernelIdeal.S_.Idx → EReal) _
  exact congrArg _ (funext fun a => a.elim0)

/-- The reference's exponent. -/
theorem expo_ref (hs : Same m m') (c : Dev Cert.KernelIdeal.nD) :
    Cert.ReferenceIdeal.Gen.k0_pay3 (F := Ideal) (Cert.ReferenceIdeal.Run.dyIn m' c) (ix2 0 0) = Cert.Scale.expo (maxAbs (Cert.KernelIdeal.Run.dyIn m c)) := by
  rw [← dy_same m m' hs c]
  exact Cert.ReferenceIdeal.Run.pay3_at _ 0 0

/-- The codes agree. -/
theorem codes_same (h : Cert.Pre_KernelIdeal_finite (hPre_finite := Cert.Pre_finite.Gen.facts) m) (hs : Same m m') (c : Dev Cert.KernelIdeal.nD) :
    (Cert.ReferenceIdeal.Run.codesB m' c : Cert.KernelIdeal.S6144x8192.Idx → EReal) = codesOf (ivT m ρ c) (Cert.KernelIdeal.Run.dyIn m c) := by
  funext i
  obtain ⟨k, l, rfl⟩ : ∃ (k : Fin 6144) (l : Fin 8192), i = ix2 k l := ⟨i 0, i 1, eq_ix2 i⟩
  refine (Cert.ReferenceIdeal.Run.pay5_at _ k l _ (expo_ref m m' hs c)).trans ?_
  unfold codesOf clip
  rw [(tiles m ρ h c).2, ← dy_same m m' hs c]

/-- The gradient results agree. -/
theorem dw_same (h : Cert.Pre_KernelIdeal_finite (hPre_finite := Cert.Pre_finite.Gen.facts) m) (hs : Same m m') (c : Dev Cert.KernelIdeal.nD) :
    (Cert.ReferenceIdeal.Run.dwB m' c : Cert.KernelIdeal.S2048x8192.Idx → EReal) = Cert.KernelIdeal.Run.dwRes m ρ c := by
  funext i
  obtain ⟨r, l, rfl⟩ : ∃ (r : Fin 2048) (l : Fin 8192), i = ix2 r l := ⟨i 0, i 1, eq_ix2 i⟩
  refine (Cert.ReferenceIdeal.Run.pay1_at _ _ _ _ r l).trans ?_
  rw [Cert.ReferenceIdeal.Run.pay6_at]
  have es : (Cert.ReferenceIdeal.Run.scB m' c) (ix2 0 0) = scT m ρ c (ix2 0 0) :=
    (Cert.ReferenceIdeal.Run.pay4_at _ 0 0 _ (expo_ref m m' hs c)).trans (tiles m ρ h c).1.symm
  have eq : ∀ k : Fin 6144, Cert.ReferenceIdeal.Gen.k0_pay5 (F := Ideal) (Cert.ReferenceIdeal.Run.dyIn m' c) (ix2 k l)
      = codesOf (ivT m ρ c) (Cert.KernelIdeal.Run.dyIn m c) (ix2 k l) := fun k => congrFun (codes_same m ρ m' h hs c) (ix2 k l)
  rw [es, xs_same m m' hs c, x_same m m' hs c, acc_same m m' hs c]
  simp only [eq]
  rfl

/-- The codes results agree. -/
theorem codesRes_same (h : Cert.Pre_KernelIdeal_finite (hPre_finite := Cert.Pre_finite.Gen.facts) m) (hs : Same m m') (c : Dev Cert.KernelIdeal.nD) :
    (Cert.ReferenceIdeal.Run.codesRes m' c : Vec Ideal Cert.KernelIdeal.S3x2048x8192 .fp8e5m2) = Cert.KernelIdeal.Run.codesRes m ρ c := by
  unfold Cert.ReferenceIdeal.Run.codesRes Cert.KernelIdeal.Run.codesRes
  rw [← codes_same m ρ m' h hs c]

theorem one_one (a b : Cert.KernelIdeal.S1x1.Idx) : a = b := by
  have h0 : (a 0 : ℕ) < 1 := (a 0).isLt
  have h1 : (a 1 : ℕ) < 1 := (a 1).isLt
  have k0 : (b 0 : ℕ) < 1 := (b 0).isLt
  have k1 : (b 1 : ℕ) < 1 := (b 1).isLt
  funext x
  match x with
  | ⟨0, _⟩ => exact Fin.ext (show (a 0 : ℕ) = (b 0 : ℕ) by omega)
  | ⟨1, _⟩ => exact Fin.ext (show (a 1 : ℕ) = (b 1 : ℕ) by omega)

/-- One value made a scalar. -/
theorem scalar_at (v : Vec Ideal Cert.KernelIdeal.S1x1 .f32) (i : Cert.KernelIdeal.S_.Idx) (h2) : shapeCast Cert.KernelIdeal.S_ v h2 i = v (ix2 0 0) := by
  show v _ = v _
  exact congrArg v (one_one _ _)

/-- The tile's corner, cut out and made a scalar. -/
theorem corner_at (T : Vec Ideal Cert.KernelIdeal.S8x128 .f32) (i : Cert.KernelIdeal.S_.Idx) (h1 h2) :
    shapeCast Cert.KernelIdeal.S_ (extractStridedSlice Cert.KernelIdeal.S1x1 ![0, 0] T h1) h2 i = T (ix2 0 0) := by
  rw [scalar_at]
  refine congrArg T (funext fun a => ?_)
  match a with
  | ⟨0, _⟩ => rfl
  | ⟨1, _⟩ => rfl

/-- The scale results agree. -/
theorem scaleRes_same (h : Cert.Pre_KernelIdeal_finite (hPre_finite := Cert.Pre_finite.Gen.facts) m) (hs : Same m m') (c : Dev Cert.KernelIdeal.nD) :
    (Cert.ReferenceIdeal.Run.scaleRes m' c : Vec Ideal Cert.KernelIdeal.S_ .f32) = Cert.KernelIdeal.Run.scaleRes m ρ c := by
  funext i
  unfold Cert.ReferenceIdeal.Run.scaleRes Cert.KernelIdeal.Run.scaleRes
  rw [corner_at, (tiles m ρ h c).1]
  refine Eq.trans ?_ (Cert.ReferenceIdeal.Run.pay4_at _ 0 0 _ (expo_ref m m' hs c))
  exact scalar_at (Cert.ReferenceIdeal.Run.scB m' c) i _

end

end Cert.Agree

end
-- ==== Proof.lean ====
/-
  The proof of `Cert.Claim`.
-/
module

public import proofs.«01_k».proof.Defs
public import proofs.«01_k».proof.Proof.Kernel.RunMain
public import proofs.«01_k».proof.Proof.KernelIdeal.RunMain
public import proofs.«01_k».proof.Proof.Agree
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_finite
public import Idealize.ShloMosaic.Adequacy
public import Idealize.ShloMosaic.Init

@[expose] public section

noncomputable section

namespace Cert.Proof

open Idealize.ShloMosaic Idealize.SL.Sem

/-- Both runs end at the kernel's result terms. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) :=
  fun m g m' g' h hs =>
    ⟨fun c => Cert.KernelIdeal.Run.dwRes m g c, fun c => Cert.KernelIdeal.Run.codesRes m g c, fun c => Cert.KernelIdeal.Run.scaleRes m g c,
      Cert.KernelIdeal.Run.run_values m g,
      (θ_run _ _ _).mono (fun r k c =>
        ⟨(k c).1.trans (Cert.Agree.dw_same m g m' h hs c), (k c).2.1.trans (Cert.Agree.codesRes_same m g m' h hs c),
          (k c).2.2.1.trans (Cert.Agree.scaleRes_same m g m' h hs c), (k c).2.2.2⟩) (Cert.ReferenceIdeal.Run.run_values (F := Ideal) m' g')⟩

theorem claim : Cert.Claim := ⟨Cert.Kernel.Gen.facts, Cert.KernelIdeal.Gen.facts, Cert.ReferenceIdeal.Gen.facts, Cert.Pre_finite.Gen.facts,
  fun m ρ _ => Cert.Kernel.Run.frame m ρ, fun m ρ _ => Cert.KernelIdeal.Run.frame m ρ, fun m ρ _ => Cert.KernelIdeal.Run.frame m ρ,
  fun m ρ _ => Cert.ReferenceIdeal.Gen.frame m ρ, fun m ρ _ => Cert.ReferenceIdeal.Gen.frame m ρ, trivial, algebraic⟩

end Cert.Proof

end
